-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separable_sobel [hPre_separable_sobel : Cert.Pre_separable_sobel.Facts] (m : (ℓ : Loc Cert.KernelIdeal.nD Cert.KernelIdeal.τ Cert.KernelIdeal.sig) → Buf (Elt Ideal) ℓ) : Prop :=
  ∀ c : Dev Cert.KernelIdeal.nD,
    (Cert.Pre_separable_sobel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separable_sobel [hPre_separable_sobel : Cert.Pre_separable_sobel.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separable_sobel.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separable_sobel [hKernelIdeal : Cert.KernelIdeal.Facts] [hPre_separable_sobel : Cert.Pre_separable_sobel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separable_sobel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separable_sobel [hReferenceIdeal : Cert.ReferenceIdeal.Facts] [hPre_separable_sobel : Cert.Pre_separable_sobel.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separable_sobel m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_separable_sobel [hKernelIdeal : Cert.KernelIdeal.Facts] [hReferenceIdeal : Cert.ReferenceIdeal.Facts] [hPre_separable_sobel : Cert.Pre_separable_sobel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separable_sobel m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separable_sobel : Cert.Pre_separable_sobel.Facts),
    quiescent_Kernel (hKernel := hKernel)
    ∧ quiescent_KernelIdeal (hKernelIdeal := hKernelIdeal)
    ∧ quiescent_KernelIdeal_pre_separable_sobel (hKernelIdeal := hKernelIdeal) (hPre_separable_sobel := hPre_separable_sobel)
    ∧ quiescent_ReferenceIdeal (hReferenceIdeal := hReferenceIdeal)
    ∧ quiescent_ReferenceIdeal_pre_separable_sobel (hReferenceIdeal := hReferenceIdeal) (hPre_separable_sobel := hPre_separable_sobel)
    ∧ preserves_Kernel_KernelIdeal
    ∧ algebraic_KernelIdeal_ReferenceIdeal_pre_separable_sobel (hKernelIdeal := hKernelIdeal) (hReferenceIdeal := hReferenceIdeal) (hPre_separable_sobel := hPre_separable_sobel)
-- ==== Pre_separable_sobel.lean ====
abbrev S32x3x512x512 : Shape := ⟨4, ![32, 3, 512, 512]⟩
abbrev S64 : Shape := ⟨1, ![64]⟩
abbrev S1x1x3x3 : Shape := ⟨4, ![1, 1, 3, 3]⟩
abbrev S3x3 : Shape := ⟨2, ![3, 3]⟩
abbrev S8x8 : Shape := ⟨2, ![8, 8]⟩
abbrev S_ : Shape := ⟨0, ![]⟩
abbrev S1 : Shape := ⟨1, ![1]⟩
abbrev S1x1 : Shape := ⟨2, ![1, 1]⟩
abbrev S8x1 : Shape := ⟨2, ![8, 1]⟩
abbrev S1x8 : Shape := ⟨2, ![1, 8]⟩

class Facts : Prop where
  shapeCasts_S64_S8x8 : S64.ShapeCasts S8x8
  bcast_S_S64 : S_.BroadcastsInDim S64 (![] : Fin 0 → Fin S64.rank)
  reducesTo_S64_S_d0 : S64.ReducesTo [0] S_
  h_S_ : 0 < S_.numel
  slices_S64_S1_0 : S64.Slices ![0] S1
  shapeCasts_S1_S_ : S1.ShapeCasts S_
  slices_S8x8_S1x1_0_0 : S8x8.Slices ![0, 0] S1x1
  bcast_S1x1_S8x8_0_1 : S1x1.BroadcastsInDim S8x8 (![0, 1] : Fin 2 → Fin S8x8.rank)
  slices_S8x8_S8x1_0_0 : S8x8.Slices ![0, 0] S8x1
  slices_S8x8_S1x8_0_0 : S8x8.Slices ![0, 0] S1x8
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  reducesTo_S8x8_S_d0_1 : S8x8.ReducesTo [0, 1] S_
  shapeCasts_S1x1x3x3_S3x3 : S1x1x3x3.ShapeCasts S3x3
  reducesTo_S3x3_S_d0_1 : S3x3.ReducesTo [0, 1] S_

variable [Facts]

noncomputable abbrev lit0 : Fin 9 → BitVec 32 := fun
  | 0 => 0xBF800000#32 | 1 => 0x00000000#32 | 2 => 0x3F800000#32 | 3 => 0xC0000000#32 | 4 => 0x00000000#32 | 5 => 0x40000000#32 | 6 => 0xBF800000#32 | 7 => 0x00000000#32
  | 8 => 0x3F800000#32
  | _ => 0#32

noncomputable abbrev lit1 : Fin 9 → BitVec 32 := fun
  | 0 => 0xBF800000#32 | 1 => 0xC0000000#32 | 2 => 0xBF800000#32 | 3 => 0x00000000#32 | 4 => 0x00000000#32 | 5 => 0x00000000#32 | 6 => 0x3F800000#32 | 7 => 0x40000000#32
  | 8 => 0x3F800000#32
  | _ => 0#32

def fn_part1 {F : FTy → Type} [FloatOps F] (main_arg2 : FVec F S1x1x3x3 .f32) (main_arg3 : FVec F S1x1x3x3 .f32) (main_cst : FVec F S3x3 .f32) (main_cst_0 : FVec F S3x3 .f32) (main_v6 : IVec S_ 1) (main_v9 : IVec S_ 1) (main_v12 : FVec F S8x8 .f32) (main_v17 : FVec F S8x8 .f32) : IVec S_ 1 :=
  let main_v18 : IVec S8x8 1 := cmpf .oeq main_v12 main_v17
  let main_c_4 : IVec S_ 1 := constantI S_ 1 1#1
  let main_v19 : IVec S_ 1 := (fun x v => Host.reduce IntOp.andi x v reducesTo_S8x8_S_d0_1 h_S_) main_v18 main_c_4
  let main_v20 : FVec F S3x3 .f32 := shapeCast S3x3 main_arg2 shapeCasts_S1x1x3x3_S3x3
  let main_v21 : IVec S3x3 1 := cmpf .oeq main_v20 main_cst
  let main_c_5 : IVec S_ 1 := constantI S_ 1 1#1
  let main_v22 : IVec S_ 1 := (fun x v => Host.reduce IntOp.andi x v reducesTo_S3x3_S_d0_1 h_S_) main_v21 main_c_5
  let main_v23 : FVec F S3x3 .f32 := shapeCast S3x3 main_arg3 shapeCasts_S1x1x3x3_S3x3
  let main_v24 : IVec S3x3 1 := cmpf .oeq main_v23 main_cst_0
  let main_c_6 : IVec S_ 1 := constantI S_ 1 1#1
  let main_v25 : IVec S_ 1 := (fun x v => Host.reduce IntOp.andi x v reducesTo_S3x3_S_d0_1 h_S_) main_v24 main_c_6
  let main_v26 : IVec S_ 1 := andi main_v6 main_v9
  let main_v27 : IVec S_ 1 := andi main_v26 main_v19
  let main_v28 : IVec S_ 1 := andi main_v27 main_v22
  let main_v29 : IVec S_ 1 := andi main_v28 main_v25
  main_v29

def fn {F : FTy → Type} [FloatOps F] (main_arg0 : FVec F S32x3x512x512 .f32) (main_arg1 : FVec F S64 .f32) (main_arg2 : FVec F S1x1x3x3 .f32) (main_arg3 : FVec F S1x1x3x3 .f32) : IVec S_ 1 :=
  let main_cst : FVec F S3x3 .f32 := fun i => FloatOps.ofBits .f32 (lit0 (S3x3.rowMajor i))
  let main_cst_0 : FVec F S3x3 .f32 := fun i => FloatOps.ofBits .f32 (lit1 (S3x3.rowMajor i))
  let main_v0 : FVec F S8x8 .f32 := shapeCast S8x8 main_arg1 shapeCasts_S64_S8x8
  let main_cst_1 : FVec F S_ .f32 := constant S_ .f32 0xFF800000#32
  let main_v1 : FVec F S64 .f32 := broadcastInDim S64 ![] bcast_S_S64 main_cst_1
  let main_v2 : IVec S64 1 := cmpf .ogt main_arg1 main_v1
  let main_cst_2 : FVec F S_ .f32 := constant S_ .f32 0x7F800000#32
  let main_v3 : FVec F S64 .f32 := broadcastInDim S64 ![] bcast_S_S64 main_cst_2
  let main_v4 : IVec S64 1 := cmpf .olt main_arg1 main_v3
  let main_v5 : IVec S64 1 := andi main_v2 main_v4
  let main_c : IVec S_ 1 := constantI S_ 1 1#1
  let main_v6 : IVec S_ 1 := (fun x v => Host.reduce IntOp.andi x v reducesTo_S64_S_d0 h_S_) main_v5 main_c
  let main_v7 : FVec F S1 .f32 := (extractStridedSlice S1 ![0] · slices_S64_S1_0) main_arg1
  let main_v8 : FVec F S_ .f32 := shapeCast S_ main_v7 shapeCasts_S1_S_
  let main_cst_3 : FVec F S_ .f32 := constant S_ .f32 0x00000000#32
  let main_v9 : IVec S_ 1 := cmpf .ogt main_v8 main_cst_3
  let main_v10 : FVec F S1x1 .f32 := (extractStridedSlice S1x1 ![0, 0] · slices_S8x8_S1x1_0_0) main_v0
  let main_v11 : FVec F S8x8 .f32 := broadcastInDim S8x8 ![0, 1] bcast_S1x1_S8x8_0_1 main_v10
  let main_v12 : FVec F S8x8 .f32 := mulf main_v0 main_v11
  let main_v13 : FVec F S8x1 .f32 := (extractStridedSlice S8x1 ![0, 0] · slices_S8x8_S8x1_0_0) main_v0
  let main_v14 : FVec F S1x8 .f32 := (extractStridedSlice S1x8 ![0, 0] · slices_S8x8_S1x8_0_0) main_v0
  let main_v15 : FVec F S8x8 .f32 := broadcastInDim S8x8 ![0, 1] bcast_S8x1_S8x8_0_1 main_v13
  let main_v16 : FVec F S8x8 .f32 := broadcastInDim S8x8 ![0, 1] bcast_S1x8_S8x8_0_1 main_v14
  let main_v17 : FVec F S8x8 .f32 := mulf main_v15 main_v16
  fn_part1 (F := F) main_arg2 main_arg3 main_cst main_cst_0 main_v6 main_v9 main_v12 main_v17
-- ==== Kernel.lean ====
abbrev S32x3x512x512 : Shape := ⟨4, ![32, 3, 512, 512]⟩
abbrev S64 : Shape := ⟨1, ![64]⟩
abbrev S1x1x3x3 : Shape := ⟨4, ![1, 1, 3, 3]⟩
abbrev S8x8 : Shape := ⟨2, ![8, 8]⟩
abbrev S1x1 : Shape := ⟨2, ![1, 1]⟩
abbrev S_ : Shape := ⟨0, ![]⟩
abbrev S1x8 : Shape := ⟨2, ![1, 8]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S64x8 : Shape := ⟨2, ![64, 8]⟩
abbrev S64x1 : Shape := ⟨2, ![64, 1]⟩
abbrev S1x512 : Shape := ⟨2, ![1, 512]⟩
abbrev S64x512 : Shape := ⟨2, ![64, 512]⟩
abbrev S512x512 : Shape := ⟨2, ![512, 512]⟩
abbrev S32x64x512 : Shape := ⟨3, ![32, 64, 512]⟩
abbrev S4x3x512x512 : Shape := ⟨4, ![4, 3, 512, 512]⟩
abbrev S4x64x512 : Shape := ⟨3, ![4, 64, 512]⟩
abbrev S1x1x512x512 : Shape := ⟨4, ![1, 1, 512, 512]⟩
abbrev S511x512 : Shape := ⟨2, ![511, 512]⟩
abbrev S512x511 : Shape := ⟨2, ![512, 511]⟩
abbrev S64x64 : Shape := ⟨2, ![64, 64]⟩
abbrev S1x64x64 : Shape := ⟨3, ![1, 64, 64]⟩
abbrev S1 : Shape := ⟨1, ![1]⟩
abbrev S1x1x1 : Shape := ⟨3, ![1, 1, 1]⟩
abbrev S1x64x512 : Shape := ⟨3, ![1, 64, 512]⟩

abbrev nBuf : Space → Nat
  | .hbm => 131
  | .vmem => 7
  | .smem => 0
  | _ => 0

abbrev hbmTy0_0 (i : Nat) : BufTy := match i % 128 with
  | 0 => ⟨S32x3x512x512, .f32⟩
  | 1 => ⟨S64, .f32⟩
  | 2 => ⟨S1x1x3x3, .f32⟩
  | 3 => ⟨S1x1x3x3, .f32⟩
  | 4 => ⟨S8x8, .f32⟩
  | 5 => ⟨S1x1, .f32⟩
  | 6 => ⟨S_, .f32⟩
  | 7 => ⟨S_, .f32⟩
  | 8 => ⟨S1x8, .f32⟩
  | 9 => ⟨S8, .f32⟩
  | 10 => ⟨S8, .f32⟩
  | 11 => ⟨S8, .f32⟩
  | 12 => ⟨S8x1, .f32⟩
  | 13 => ⟨S8, .f32⟩
  | 14 => ⟨S8, .f32⟩
  | 15 => ⟨S8, .f32⟩
  | 16 => ⟨S512, .i32⟩
  | 17 => ⟨S512x1, .i32⟩
  | 18 => ⟨S_, .i32⟩
  | 19 => ⟨S_, .i32⟩
  | 20 => ⟨S512x1, .i32⟩
  | 21 => ⟨S512x1, .i32⟩
  | 22 => ⟨S512x1, .i32⟩
  | 23 => ⟨S_, .i32⟩
  | 24 => ⟨S512x1, .i32⟩
  | 25 => ⟨S512x1, .i1⟩
  | 26 => ⟨S512x1, .i32⟩
  | 27 => ⟨S512x1, .i32⟩
  | 28 => ⟨S_, .i32⟩
  | 29 => ⟨S512x1, .i32⟩
  | 30 => ⟨S512x1, .i1⟩
  | 31 => ⟨S512x1, .i1⟩
  | 32 => ⟨S_, .i32⟩
  | 33 => ⟨S512x1, .i32⟩
  | 34 => ⟨S512x1, .i32⟩
  | 35 => ⟨S512x1, .i32⟩
  | 36 => ⟨S64, .i32⟩
  | 37 => ⟨S1x64, .i32⟩
  | 38 => ⟨S512x64, .i32⟩
  | 39 => ⟨S512x64, .i32⟩
  | 40 => ⟨S512x64, .i1⟩
  | 41 => ⟨S512x64, .f32⟩
  | 42 => ⟨S1x8, .f32⟩
  | 43 => ⟨S64x8, .f32⟩
  | 44 => ⟨S512, .f32⟩
  | 45 => ⟨S512x1, .f32⟩
  | 46 => ⟨S512x64, .f32⟩
  | 47 => ⟨S512x64, .f32⟩
  | 48 => ⟨S64, .i32⟩
  | 49 => ⟨S64x1, .i32⟩
  | 50 => ⟨S1x512, .i32⟩
  | 51 => ⟨S_, .i32⟩
  | 52 => ⟨S_, .i32⟩
  | 53 => ⟨S1x512, .i32⟩
  | 54 => ⟨S1x512, .i32⟩
  | 55 => ⟨S1x512, .i32⟩
  | 56 => ⟨S_, .i32⟩
  | 57 => ⟨S1x512, .i32⟩
  | 58 => ⟨S1x512, .i1⟩
  | 59 => ⟨S1x512, .i32⟩
  | 60 => ⟨S1x512, .i32⟩
  | 61 => ⟨S_, .i32⟩
  | 62 => ⟨S1x512, .i32⟩
  | 63 => ⟨S1x512, .i1⟩
  | 64 => ⟨S1x512, .i1⟩
  | 65 => ⟨S_, .i32⟩
  | 66 => ⟨S1x512, .i32⟩
  | 67 => ⟨S1x512, .i32⟩
  | 68 => ⟨S1x512, .i32⟩
  | 69 => ⟨S64x512, .i32⟩
  | 70 => ⟨S64x512, .i32⟩
  | 71 => ⟨S64x512, .i1⟩
  | 72 => ⟨S64x512, .f32⟩
  | 73 => ⟨S1x8, .f32⟩
  | 74 => ⟨S64x8, .f32⟩
  | 75 => ⟨S512, .f32⟩
  | 76 => ⟨S1x512, .f32⟩
  | 77 => ⟨S64x512, .f32⟩
  | 78 => ⟨S64x512, .f32⟩
  | 79 => ⟨S512, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S512, .i32⟩
  | 87 => ⟨S512, .i32⟩
  | 88 => ⟨S_, .i32⟩
  | 89 => ⟨S512, .i32⟩
  | 90 => ⟨S512, .i1⟩
  | 91 => ⟨S_, .i32⟩
  | 92 => ⟨S512, .i32⟩
  | 93 => ⟨S512, .i1⟩
  | 94 => ⟨S_, .i32⟩
  | 95 => ⟨S_, .i1⟩
  | 96 => ⟨S512, .i1⟩
  | 97 => ⟨S512, .i1⟩
  | 98 => ⟨S512, .i1⟩
  | 99 => ⟨S512, .i32⟩
  | 100 => ⟨S512, .i32⟩
  | 101 => ⟨S512, .i32⟩
  | 102 => ⟨S_, .i32⟩
  | 103 => ⟨S512, .i32⟩
  | 104 => ⟨S512, .i32⟩
  | 105 => ⟨S_, .i32⟩
  | 106 => ⟨S_, .i32⟩
  | 107 => ⟨S512, .i32⟩
  | 108 => ⟨S512, .i32⟩
  | 109 => ⟨S512, .i32⟩
  | 110 => ⟨S_, .i32⟩
  | 111 => ⟨S512, .i32⟩
  | 112 => ⟨S512, .i1⟩
  | 113 => ⟨S512, .i32⟩
  | 114 => ⟨S512, .i32⟩
  | 115 => ⟨S_, .i32⟩
  | 116 => ⟨S512, .i32⟩
  | 117 => ⟨S512, .i1⟩
  | 118 => ⟨S512, .i1⟩
  | 119 => ⟨S_, .i32⟩
  | 120 => ⟨S512, .i32⟩
  | 121 => ⟨S512, .i32⟩
  | 122 => ⟨S512, .i32⟩
  | 123 => ⟨S512, .i32⟩
  | 124 => ⟨S512x1, .i32⟩
  | 125 => ⟨S1x512, .i32⟩
  | 126 => ⟨S512x512, .i32⟩
  | 127 => ⟨S512x512, .i32⟩
  | _ => ⟨S32x3x512x512, .f32⟩

abbrev hbmTy0_1 (i : Nat) : BufTy := match i % 128 with
  | 0 => ⟨S512x512, .i1⟩
  | 1 => ⟨S512x512, .f32⟩
  | 2 => ⟨S32x64x512, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | .local _ .vmem, ⟨0, _⟩ => ⟨S4x3x512x512, .f32⟩
  | .local _ .vmem, ⟨1, _⟩ => ⟨S4x3x512x512, .f32⟩
  | .local _ .vmem, ⟨2, _⟩ => ⟨S64x512, .f32⟩
  | .local _ .vmem, ⟨3, _⟩ => ⟨S512x64, .f32⟩
  | .local _ .vmem, ⟨4, _⟩ => ⟨S512x512, .f32⟩
  | .local _ .vmem, ⟨5, _⟩ => ⟨S4x64x512, .f32⟩
  | .local _ .vmem, ⟨6, _⟩ => ⟨S4x64x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_1 : Ref sig .tc := ⟨.hbm, 80, rfl⟩
abbrev main_call2_v0 : Ref sig .tc := ⟨.hbm, 81, rfl⟩
abbrev main_call2_c : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_1 : Ref sig .tc := ⟨.hbm, 88, rfl⟩
abbrev main_call2_v5 : Ref sig .tc := ⟨.hbm, 89, rfl⟩
abbrev main_call2_v6 : Ref sig .tc := ⟨.hbm, 90, rfl⟩
abbrev main_call2_c_2 : Ref sig .tc := ⟨.hbm, 91, rfl⟩
abbrev main_call2_v7 : Ref sig .tc := ⟨.hbm, 92, rfl⟩
abbrev main_call2_v8 : Ref sig .tc := ⟨.hbm, 93, rfl⟩
abbrev main_call2_c_3 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_v42 : Ref sig .tc := ⟨.hbm, 101, rfl⟩
abbrev main_c_2 : Ref sig .tc := ⟨.hbm, 102, rfl⟩
abbrev main_v43 : Ref sig .tc := ⟨.hbm, 103, rfl⟩
abbrev main_v44 : Ref sig .tc := ⟨.hbm, 104, rfl⟩
abbrev main_c_3 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_c : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_0 : Ref sig .tc := ⟨.hbm, 119, rfl⟩
abbrev main_call3_v12 : Ref sig .tc := ⟨.hbm, 120, rfl⟩
abbrev main_call3_v13 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x3x512x512 : Shape := ⟨4, ![32, 3, 512, 512]⟩
abbrev S64 : Shape := ⟨1, ![64]⟩
abbrev S1x1x3x3 : Shape := ⟨4, ![1, 1, 3, 3]⟩
abbrev S32x1x512x512 : Shape := ⟨4, ![32, 1, 512, 512]⟩
abbrev S_ : Shape := ⟨0, ![]⟩
abbrev S32x1x514x514 : Shape := ⟨4, ![32, 1, 514, 514]⟩
abbrev S1x1x1x1 : Shape := ⟨4, ![1, 1, 1, 1]⟩
abbrev S32x64x8x64x8 : Shape := ⟨5, ![32, 64, 8, 64, 8]⟩
abbrev S32x64x64x8x8 : Shape := ⟨5, ![32, 64, 64, 8, 8]⟩
abbrev S131072x64 : Shape := ⟨2, ![131072, 64]⟩
abbrev S1x64 : Shape := ⟨2, ![1, 64]⟩
abbrev S131072x8 : Shape := ⟨2, ![131072, 8]⟩
abbrev S131072 : Shape := ⟨1, ![131072]⟩
abbrev S131072x1 : Shape := ⟨2, ![131072, 1]⟩
abbrev S131072x64x1 : Shape := ⟨3, ![131072, 64, 1]⟩
abbrev S131072x64x2 : Shape := ⟨3, ![131072, 64, 2]⟩
abbrev S32x32768 : Shape := ⟨2, ![32, 32768]⟩
abbrev S32 : Shape := ⟨1, ![32]⟩
abbrev S32x1 : Shape := ⟨2, ![32, 1]⟩
abbrev S32x64x512 : Shape := ⟨3, ![32, 64, 512]⟩

abbrev nBuf : Space → Nat
  | .hbm => 233
  | .vmem => 0
  | .smem => 0
  | _ => 0

abbrev hbmTy0_0 (i : Nat) : BufTy := match i % 128 with
  | 0 => ⟨S32x3x512x512, .f32⟩
  | 1 => ⟨S64, .f32⟩
  | 2 => ⟨S1x1x3x3, .f32⟩
  | 3 => ⟨S1x1x3x3, .f32⟩
  | 4 => ⟨S32x1x512x512, .f32⟩
  | 5 => ⟨S_, .f32⟩
  | 6 => ⟨S32x1x512x512, .f32⟩
  | 7 => ⟨S32x1x512x512, .f32⟩
  | 8 => ⟨S32x1x512x512, .f32⟩
  | 9 => ⟨S_, .f32⟩
  | 10 => ⟨S32x1x512x512, .f32⟩
  | 11 => ⟨S32x1x512x512, .f32⟩
  | 12 => ⟨S32x1x512x512, .f32⟩
  | 13 => ⟨S32x1x512x512, .f32⟩
  | 14 => ⟨S_, .f32⟩
  | 15 => ⟨S32x1x512x512, .f32⟩
  | 16 => ⟨S32x1x512x512, .f32⟩
  | 17 => ⟨S32x1x512x512, .f32⟩
  | 18 => ⟨S_, .i32⟩
  | 19 => ⟨S_, .f32⟩
  | 20 => ⟨S32x1x514x514, .f32⟩
  | 21 => ⟨S_, .f32⟩
  | 22 => ⟨S32x1x512x512, .f32⟩
  | 23 => ⟨S1x1x1x1, .f32⟩
  | 24 => ⟨S_, .f32⟩
  | 25 => ⟨S32x1x512x512, .f32⟩
  | 26 => ⟨S32x1x512x512, .f32⟩
  | 27 => ⟨S32x1x512x512, .f32⟩
  | 28 => ⟨S32x1x512x512, .f32⟩
  | 29 => ⟨S1x1x1x1, .f32⟩
  | 30 => ⟨S_, .f32⟩
  | 31 => ⟨S32x1x512x512, .f32⟩
  | 32 => ⟨S32x1x512x512, .f32⟩
  | 33 => ⟨S32x1x512x512, .f32⟩
  | 34 => ⟨S32x1x512x512, .f32⟩
  | 35 => ⟨S1x1x1x1, .f32⟩
  | 36 => ⟨S_, .f32⟩
  | 37 => ⟨S32x1x512x512, .f32⟩
  | 38 => ⟨S32x1x512x512, .f32⟩
  | 39 => ⟨S32x1x512x512, .f32⟩
  | 40 => ⟨S32x1x512x512, .f32⟩
  | 41 => ⟨S1x1x1x1, .f32⟩
  | 42 => ⟨S_, .f32⟩
  | 43 => ⟨S32x1x512x512, .f32⟩
  | 44 => ⟨S32x1x512x512, .f32⟩
  | 45 => ⟨S32x1x512x512, .f32⟩
  | 46 => ⟨S32x1x512x512, .f32⟩
  | 47 => ⟨S1x1x1x1, .f32⟩
  | 48 => ⟨S_, .f32⟩
  | 49 => ⟨S32x1x512x512, .f32⟩
  | 50 => ⟨S32x1x512x512, .f32⟩
  | 51 => ⟨S32x1x512x512, .f32⟩
  | 52 => ⟨S32x1x512x512, .f32⟩
  | 53 => ⟨S1x1x1x1, .f32⟩
  | 54 => ⟨S_, .f32⟩
  | 55 => ⟨S32x1x512x512, .f32⟩
  | 56 => ⟨S32x1x512x512, .f32⟩
  | 57 => ⟨S32x1x512x512, .f32⟩
  | 58 => ⟨S32x1x512x512, .f32⟩
  | 59 => ⟨S1x1x1x1, .f32⟩
  | 60 => ⟨S_, .f32⟩
  | 61 => ⟨S32x1x512x512, .f32⟩
  | 62 => ⟨S32x1x512x512, .f32⟩
  | 63 => ⟨S32x1x512x512, .f32⟩
  | 64 => ⟨S32x1x512x512, .f32⟩
  | 65 => ⟨S1x1x1x1, .f32⟩
  | 66 => ⟨S_, .f32⟩
  | 67 => ⟨S32x1x512x512, .f32⟩
  | 68 => ⟨S32x1x512x512, .f32⟩
  | 69 => ⟨S32x1x512x512, .f32⟩
  | 70 => ⟨S32x1x512x512, .f32⟩
  | 71 => ⟨S1x1x1x1, .f32⟩
  | 72 => ⟨S_, .f32⟩
  | 73 => ⟨S32x1x512x512, .f32⟩
  | 74 => ⟨S32x1x512x512, .f32⟩
  | 75 => ⟨S32x1x512x512, .f32⟩
  | 76 => ⟨S32x1x512x512, .f32⟩
  | 77 => ⟨S_, .f32⟩
  | 78 => ⟨S32x1x512x512, .f32⟩
  | 79 => ⟨S1x1x1x1, .f32⟩
  | 80 => ⟨S_, .f32⟩
  | 81 => ⟨S32x1x512x512, .f32⟩
  | 82 => ⟨S32x1x512x512, .f32⟩
  | 83 => ⟨S32x1x512x512, .f32⟩
  | 84 => ⟨S32x1x512x512, .f32⟩
  | 85 => ⟨S1x1x1x1, .f32⟩
  | 86 => ⟨S_, .f32⟩
  | 87 => ⟨S32x1x512x512, .f32⟩
  | 88 => ⟨S32x1x512x512, .f32⟩
  | 89 => ⟨S32x1x512x512, .f32⟩
  | 90 => ⟨S32x1x512x512, .f32⟩
  | 91 => ⟨S1x1x1x1, .f32⟩
  | 92 => ⟨S_, .f32⟩
  | 93 => ⟨S32x1x512x512, .f32⟩
  | 94 => ⟨S32x1x512x512, .f32⟩
  | 95 => ⟨S32x1x512x512, .f32⟩
  | 96 => ⟨S32x1x512x512, .f32⟩
  | 97 => ⟨S1x1x1x1, .f32⟩
  | 98 => ⟨S_, .f32⟩
  | 99 => ⟨S32x1x512x512, .f32⟩
  | 100 => ⟨S32x1x512x512, .f32⟩
  | 101 => ⟨S32x1x512x512, .f32⟩
  | 102 => ⟨S32x1x512x512, .f32⟩
  | 103 => ⟨S1x1x1x1, .f32⟩
  | 104 => ⟨S_, .f32⟩
  | 105 => ⟨S32x1x512x512, .f32⟩
  | 106 => ⟨S32x1x512x512, .f32⟩
  | 107 => ⟨S32x1x512x512, .f32⟩
  | 108 => ⟨S32x1x512x512, .f32⟩
  | 109 => ⟨S1x1x1x1, .f32⟩
  | 110 => ⟨S_, .f32⟩
  | 111 => ⟨S32x1x512x512, .f32⟩
  | 112 => ⟨S32x1x512x512, .f32⟩
  | 113 => ⟨S32x1x512x512, .f32⟩
  | 114 => ⟨S32x1x512x512, .f32⟩
  | 115 => ⟨S1x1x1x1, .f32⟩
  | 116 => ⟨S_, .f32⟩
  | 117 => ⟨S32x1x512x512, .f32⟩
  | 118 => ⟨S32x1x512x512, .f32⟩
  | 119 => ⟨S32x1x512x512, .f32⟩
  | 120 => ⟨S32x1x512x512, .f32⟩
  | 121 => ⟨S1x1x1x1, .f32⟩
  | 122 => ⟨S_, .f32⟩
  | 123 => ⟨S32x1x512x512, .f32⟩
  | 124 => ⟨S32x1x512x512, .f32⟩
  | 125 => ⟨S32x1x512x512, .f32⟩
  | 126 => ⟨S32x1x512x512, .f32⟩
  | 127 => ⟨S1x1x1x1, .f32⟩
  | _ => ⟨S32x3x512x512, .f32⟩

abbrev hbmTy0_1 (i : Nat) : BufTy := match i % 128 with
  | 0 => ⟨S_, .f32⟩
  | 1 => ⟨S32x1x512x512, .f32⟩
  | 2 => ⟨S32x1x512x512, .f32⟩
  | 3 => ⟨S32x1x512x512, .f32⟩
  | 4 => ⟨S32x1x512x512, .f32⟩
  | 5 => ⟨S32x1x512x512, .f32⟩
  | 6 => ⟨S32x1x512x512, .f32⟩
  | 7 => ⟨S32x1x512x512, .f32⟩
  | 8 => ⟨S_, .f32⟩
  | 9 => ⟨S32x1x512x512, .f32⟩
  | 10 => ⟨S32x1x512x512, .f32⟩
  | 11 => ⟨S32x1x512x512, .f32⟩
  | 12 => ⟨S_, .f32⟩
  | 13 => ⟨S_, .f32⟩
  | 14 => ⟨S_, .f32⟩
  | 15 => ⟨S_, .f32⟩
  | 16 => ⟨S_, .f32⟩
  | 17 => ⟨S32x1x512x512, .f32⟩
  | 18 => ⟨S32x1x512x512, .f32⟩
  | 19 => ⟨S32x1x512x512, .f32⟩
  | 20 => ⟨S_, .f32⟩
  | 21 => ⟨S32x1x512x512, .f32⟩
  | 22 => ⟨S32x1x512x512, .i1⟩
  | 23 => ⟨S_, .f32⟩
  | 24 => ⟨S32x1x512x512, .f32⟩
  | 25 => ⟨S32x1x512x512, .i1⟩
  | 26 => ⟨S_, .f32⟩
  | 27 => ⟨S_, .i1⟩
  | 28 => ⟨S32x1x512x512, .i1⟩
  | 29 => ⟨S32x1x512x512, .i1⟩
  | 30 => ⟨S32x1x512x512, .i1⟩
  | 31 => ⟨S32x1x512x512, .f32⟩
  | 32 => ⟨S32x1x512x512, .f32⟩
  | 33 => ⟨S32x1x512x512, .f32⟩
  | 34 => ⟨S32x64x8x64x8, .f32⟩
  | 35 => ⟨S32x64x64x8x8, .f32⟩
  | 36 => ⟨S131072x64, .f32⟩
  | 37 => ⟨S1x64, .f32⟩
  | 38 => ⟨S131072x64, .f32⟩
  | 39 => ⟨S131072x64, .f32⟩
  | 40 => ⟨S32x64x8x64x8, .f32⟩
  | 41 => ⟨S32x64x64x8x8, .f32⟩
  | 42 => ⟨S131072x64, .f32⟩
  | 43 => ⟨S_, .f32⟩
  | 44 => ⟨S_, .f32⟩
  | 45 => ⟨S131072x64, .f32⟩
  | 46 => ⟨S131072x64, .f32⟩
  | 47 => ⟨S131072x64, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S131072x64, .i32⟩
  | 55 => ⟨S131072x64, .i32⟩
  | 56 => ⟨S_, .i32⟩
  | 57 => ⟨S131072x64, .i32⟩
  | 58 => ⟨S131072x64, .i1⟩
  | 59 => ⟨S_, .i32⟩
  | 60 => ⟨S131072x64, .i32⟩
  | 61 => ⟨S131072x64, .i1⟩
  | 62 => ⟨S_, .i32⟩
  | 63 => ⟨S_, .i1⟩
  | 64 => ⟨S131072x64, .i1⟩
  | 65 => ⟨S131072x64, .i1⟩
  | 66 => ⟨S131072x64, .i1⟩
  | 67 => ⟨S131072x64, .i32⟩
  | 68 => ⟨S131072x64, .i32⟩
  | 69 => ⟨S131072x64, .i32⟩
  | 70 => ⟨S_, .f32⟩
  | 71 => ⟨S131072x8, .f32⟩
  | 72 => ⟨S131072, .i32⟩
  | 73 => ⟨S131072x1, .i32⟩
  | 74 => ⟨S_, .i32⟩
  | 75 => ⟨S131072x1, .i32⟩
  | 76 => ⟨S131072x1, .i1⟩
  | 77 => ⟨S_, .i32⟩
  | 78 => ⟨S131072x1, .i32⟩
  | 79 => ⟨S131072x1, .i32⟩
  | 80 => ⟨S131072x1, .i32⟩
  | 81 => ⟨S_, .i32⟩
  | 82 => ⟨S131072x64, .i32⟩
  | 83 => ⟨S131072x64, .i1⟩
  | 84 => ⟨S_, .i32⟩
  | 85 => ⟨S131072x64, .i32⟩
  | 86 => ⟨S131072x64, .i32⟩
  | 87 => ⟨S131072x64, .i32⟩
  | 88 => ⟨S131072x64, .i32⟩
  | 89 => ⟨S131072x64x1, .i32⟩
  | 90 => ⟨S131072x64x1, .i32⟩
  | 91 => ⟨S131072x64x2, .i32⟩
  | 92 => ⟨S131072x8, .f32⟩
  | 93 => ⟨S32x32768, .f32⟩
  | 94 => ⟨S32x32768, .f32⟩
  | 95 => ⟨S_, .f32⟩
  | 96 => ⟨S32, .f32⟩
  | 97 => ⟨S32x1, .f32⟩
  | 98 => ⟨S32x1, .f32⟩
  | 99 => ⟨S_, .f32⟩
  | 100 => ⟨S32x1, .f32⟩
  | 101 => ⟨S32x1, .f32⟩
  | 102 => ⟨S32x32768, .f32⟩
  | 103 => ⟨S32x32768, .f32⟩
  | 104 => ⟨S32x64x512, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_3 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_cst_4 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_cst_5 : Ref sig .tc := ⟨.hbm, 140, rfl⟩
abbrev main_cst_6 : Ref sig .tc := ⟨.hbm, 141, rfl⟩
abbrev main_v128 : Ref sig .tc := ⟨.hbm, 142, rfl⟩
abbrev main_cst_7 : Ref sig .tc := ⟨.hbm, 143, rfl⟩
abbrev main_v129 : Ref sig .tc := ⟨.hbm, 144, rfl⟩
abbrev main_v130 : Ref sig .tc := ⟨.hbm, 145, rfl⟩
abbrev main_call1_v0 : Ref sig .tc := ⟨.hbm, 146, rfl⟩
abbrev main_call1_v1 : Ref sig .tc := ⟨.hbm, 147, rfl⟩
abbrev main_call1_cst : Ref sig .tc := ⟨.hbm, 148, rfl⟩
abbrev main_call1_v2 : Ref sig .tc := ⟨.hbm, 149, rfl⟩
abbrev main_call1_v3 : Ref sig .tc := ⟨.hbm, 150, rfl⟩
abbrev main_call1_cst_0 : Ref sig .tc := ⟨.hbm, 151, rfl⟩
abbrev main_call1_v4 : Ref sig .tc := ⟨.hbm, 152, rfl⟩
abbrev main_call1_v5 : Ref sig .tc := ⟨.hbm, 153, rfl⟩
abbrev main_call1_cst_1 : Ref sig .tc := ⟨.hbm, 154, rfl⟩
abbrev main_call1_v6 : Ref sig .tc := ⟨.hbm, 155, rfl⟩
abbrev main_call1_v7 : Ref sig .tc := ⟨.hbm, 156, rfl⟩
abbrev main_call1_v8 : Ref sig .tc := ⟨.hbm, 157, rfl⟩
abbrev main_call1_v9 : Ref sig .tc := ⟨.hbm, 158, rfl⟩
abbrev main_call1_v10 : Ref sig .tc := ⟨.hbm, 159, rfl⟩
abbrev main_call1_v11 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_8 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_c_9 : Ref sig .tc := ⟨.hbm, 176, rfl⟩
abbrev main_call2_v0 : Ref sig .tc := ⟨.hbm, 177, rfl⟩
abbrev main_call2_c : Ref sig .tc := ⟨.hbm, 178, rfl⟩
abbrev main_call2_v1 : Ref sig .tc := ⟨.hbm, 179, rfl⟩
abbrev main_call2_c_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_c_1 : Ref sig .tc := ⟨.hbm, 184, rfl⟩
abbrev main_call2_v5 : Ref sig .tc := ⟨.hbm, 185, rfl⟩
abbrev main_call2_v6 : Ref sig .tc := ⟨.hbm, 186, rfl⟩
abbrev main_call2_c_2 : Ref sig .tc := ⟨.hbm, 187, rfl⟩
abbrev main_call2_v7 : Ref sig .tc := ⟨.hbm, 188, rfl⟩
abbrev main_call2_v8 : Ref sig .tc := ⟨.hbm, 189, rfl⟩
abbrev main_call2_c_3 : Ref sig .tc := ⟨.hbm, 190, rfl⟩
abbrev main_call2_v9 : Ref sig .tc := ⟨.hbm, 191, rfl⟩
abbrev main_call2_v10 : Ref sig .tc := ⟨.hbm, 192, rfl⟩
abbrev main_call2_v11 : Ref sig .tc := ⟨.hbm, 193, rfl⟩
abbrev main_call2_v12 : Ref sig .tc := ⟨.hbm, 194, rfl⟩
abbrev main_call2_v13 : Ref sig .tc := ⟨.hbm, 195, rfl⟩
abbrev main_call2_v14 : Ref sig .tc := ⟨.hbm, 196, rfl⟩
abbrev main_v145 : Ref sig .tc := ⟨.hbm, 197, rfl⟩
abbrev main_cst_10 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_11 : Ref sig .tc := ⟨.hbm, 202, rfl⟩
abbrev main_v149 : Ref sig .tc := ⟨.hbm, 203, rfl⟩
abbrev main_v150 : Ref sig .tc := ⟨.hbm, 204, rfl⟩
abbrev main_c_12 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_c_13 : Ref sig .tc := ⟨.hbm, 209, rfl⟩
abbrev main_v154 : Ref sig .tc := ⟨.hbm, 210, rfl⟩
abbrev main_v155 : Ref sig .tc := ⟨.hbm, 211, rfl⟩
abbrev main_c_14 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_call3_v0 : Ref sig .tc := ⟨.hbm, 222, rfl⟩
abbrev main_call3_cst : Ref sig .tc := ⟨.hbm, 223, rfl⟩
abbrev main_call3_v1 : Ref sig .tc := ⟨.hbm, 224, rfl⟩
abbrev main_call3_v2 : Ref sig .tc := ⟨.hbm, 225, rfl⟩
abbrev main_v165 : Ref sig .tc := ⟨.hbm, 226, rfl⟩
abbrev main_cst_15 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩

abbrev nD : Nat := 1
abbrev τ : Topo := Topo.v7x

variable {F : FTy → Type} [FloatOps F]
-- ==== Proof.KernelImage.lean ====
/-
  What the kernel does with one image, written once: a function of the image's three channels and of the
  three matrices the kernel is handed. A grid point works on four images with the same code; the theorem
  `out_eq` says that the block it leaves is this one function, applied to each image in turn.
-/
module

public import proofs.«01_k».proof.Proof.Gen.KernelIdeal.Frame

@[expose] public section

set_option maxRecDepth 16384

noncomputable section

namespace Cert.KernelIdeal.Image

open Idealize.ShloMosaic Cert.KernelIdeal Cert.KernelIdeal.Gen Cert.KernelIdeal.Facts

variable {F : FTy → Type} [FloatOps F]

/-- A plane of the image. -/
abbrev Plane (F : FTy → Type) := FVec F S512x512 .f32

/-- One number at every pixel. -/
def lit (w : BitVec 32) : Plane F := broadcast S512x512 (Scalar.ofBits .f32 w)

/-- One word at every pixel. -/
def word (w : BitVec 32) : IVec S512x512 32 := broadcast S512x512 w

/-- The grey image, rounded to bfloat16 and back. -/
def gray (c0 c1 c2 : Vec F S1x1x512x512 .f32) : Plane F :=
  extf .f32 (truncf .bf16
    (addf (addf (mulf (lit 0x3E99096C#32) (shapeCast S512x512 c0 shapeCasts_S1x1x512x512_S512x512))
      (mulf (lit 0x3F1645A2#32) (shapeCast S512x512 c1 shapeCasts_S1x1x512x512_S512x512)))
      (mulf (lit 0x3DE978D5#32) (shapeCast S512x512 c2 shapeCasts_S1x1x512x512_S512x512)))
    bitsLt_bf16_f32) bitsLt_bf16_f32

/-- A row of zeros. -/
def zrow : FVec F S1x512 .f32 := broadcast S1x512 (Scalar.ofBits .f32 0x00000000#32)

/-- A column of zeros. -/
def zcol : FVec F S512x1 .f32 := broadcast S512x1 (Scalar.ofBits .f32 0x00000000#32)

/-- The plane moved one row down: each pixel holds the one above it. -/
def above (g : Plane F) : Plane F :=
  concatenate S512x512 0 [⟨S1x512, zrow⟩, ⟨S511x512, extractStridedSlice S511x512 ![0, 0] g slices_S512x512_o0_0_S511x512⟩]
    concatenates_S1x512_S511x512_S512x512_d0

/-- The plane moved one row up: each pixel holds the one below it. -/
def below (g : Plane F) : Plane F :=
  concatenate S512x512 0 [⟨S511x512, extractStridedSlice S511x512 ![1, 0] g slices_S512x512_o1_0_S511x512⟩, ⟨S1x512, zrow⟩]
    concatenates_S511x512_S1x512_S512x512_d0

/-- The plane moved one column to the left: each pixel holds its right-hand neighbour. -/
def after (g : Plane F) : Plane F :=
  concatenate S512x512 1 [⟨S512x511, extractStridedSlice S512x511 ![0, 1] g slices_S512x512_o0_1_S512x511⟩, ⟨S512x1, zcol⟩]
    concatenates_S512x511_S512x1_S512x512_d1

/-- The plane moved one column to the right: each pixel holds its left-hand neighbour. -/
def before (g : Plane F) : Plane F :=
  concatenate S512x512 1 [⟨S512x1, zcol⟩, ⟨S512x511, extractStridedSlice S512x511 ![0, 0] g slices_S512x512_o0_0_S512x511⟩]
    concatenates_S512x1_S512x511_S512x512_d1

/-- The column filter `1 2 1`. -/
def vsum (g : Plane F) : Plane F := addf (addf (above g) (mulf (lit 0x40000000#32) g)) (below g)

/-- The column filter `-1 0 1`. -/
def vdiff (g : Plane F) : Plane F := subf (below g) (above g)

/-- The horizontal gradient of a grey plane. -/
def gradX (g : Plane F) : Plane F := subf (after (vsum g)) (before (vsum g))

/-- The vertical gradient of a grey plane. -/
def gradY (g : Plane F) : Plane F :=
  addf (addf (before (vdiff g)) (mulf (lit 0x40000000#32) (vdiff g))) (after (vdiff g))

/-- The gradient's length. -/
def mag (gx gy : Plane F) : Plane F := sqrt (addf (addf (mulf gx gx) (mulf gy gy)) (lit 0x358637BD#32))

/-- The gradient's direction bin, by comparisons. -/
def bin (gx gy : Plane F) : IVec S512x512 32 :=
  select (cmpf .olt gy (lit 0x00000000#32))
    (select (cmpf .olt gx (lit 0x00000000#32)) (select (cmpf .oge (absf gy) (absf gx)) (word 5#32) (word 4#32))
      (select (cmpf .ogt gx (lit 0x00000000#32)) (select (cmpf .ogt (absf gy) (absf gx)) (word 6#32) (word 7#32)) (word 6#32)))
    (select (cmpf .ogt gx (lit 0x00000000#32)) (select (cmpf .oge (absf gy) (absf gx)) (word 1#32) (word 0#32))
      (select (cmpf .olt gx (lit 0x00000000#32))
        (select (cmpf .oeq gy (lit 0x00000000#32)) (word 4#32)
          (select (cmpf .ogt (absf gy) (absf gx)) (word 2#32) (word 3#32)))
        (select (cmpf .oeq gy (lit 0x00000000#32)) (word 0#32) (word 2#32))))

/-- The lengths of the pixels in bin `b`, summed over cells with weights: the columns first, then the rows. -/
def hist (mg : Plane F) (k : IVec S512x512 32) (smat : FVec F S512x64 .f32) (rmat : FVec F S64x512 .f32) (b : BitVec 32) :
    FVec F S64x64 .f32 :=
  matmul Cert.KernelIdeal.dot_S64x512_S512x64_S64x64_1_0_0_1_n_n none rmat
    (matmul Cert.KernelIdeal.dot_S512x512_S512x64_S512x64_1_0_0_1_n_n none (select (cmpi .eq k (word b)) mg (lit 0x00000000#32)) smat
      (constant S512x64 .f32 0x00000000#32))
    (constant S64x64 .f32 0x00000000#32)

/-- The sum of the squares of a table of cells. -/
def squares (h : FVec F S64x64 .f32) : F .f32 :=
  extractAt ![0, 0, 0] (shapeCast S1x1x1 (multiReduction .add [1, 2] S1 (shapeCast S1x64x64 (mulf h h) shapeCasts_S64x64_S1x64x64)
    0x00000000#32 reduces_S1x64x64_S1 (.inl rfl) rfl) shapeCasts_S1_S1x1x1) inpos_S1x1x1_p0_0_0

/-- One over the norm of the eight tables, the norm kept off zero. -/
def scale (h : BitVec 32 → FVec F S64x64 .f32) : F .f32 :=
  Scalar.divf (Scalar.ofBits .f32 0x3F800000#32) (Scalar.addf (Scalar.sqrt
    (Scalar.addf (Scalar.addf (Scalar.addf (Scalar.addf (Scalar.addf (Scalar.addf (Scalar.addf (Scalar.addf (Scalar.ofBits .f32 0x00000000#32)
      (squares (h 0#32))) (squares (h 1#32))) (squares (h 2#32))) (squares (h 3#32))) (squares (h 4#32))) (squares (h 5#32)))
      (squares (h 6#32))) (squares (h 7#32)))) (Scalar.ofBits .f32 0x358637BD#32))

/-- The eight tables side by side. -/
def beside (h : BitVec 32 → FVec F S64x64 .f32) : FVec F S64x512 .f32 :=
  concatenate S64x512 1 [⟨S64x64, h 0#32⟩, ⟨S64x64, h 1#32⟩, ⟨S64x64, h 2#32⟩, ⟨S64x64, h 3#32⟩, ⟨S64x64, h 4#32⟩, ⟨S64x64, h 5#32⟩,
    ⟨S64x64, h 6#32⟩, ⟨S64x64, h 7#32⟩] concatenates_S64x64_S64x64_S64x64_S64x64_S64x64_S64x64_S64x64_S64x64_S64x512_d1

/-- The tables' columns put in the result's order and everything divided by the norm. -/
def finish (h : BitVec 32 → FVec F S64x64 .f32) (pmat : FVec F S512x512 .f32) : FVec F S1x64x512 .f32 :=
  shapeCast S1x64x512 (mulf (matmul Cert.KernelIdeal.dot_S64x512_S512x512_S64x512_1_0_0_1_n_n none (beside h) pmat (constant S64x512 .f32 0x00000000#32))
    (broadcast S64x512 (scale h))) shapeCasts_S64x512_S1x64x512

/-- The descriptor of one image. -/
def image (c0 c1 c2 : Vec F S1x1x512x512 .f32) (rmat : FVec F S64x512 .f32) (smat : FVec F S512x64 .f32) (pmat : FVec F S512x512 .f32) :
    FVec F S1x64x512 .f32 :=
  finish (hist (mag (gradX (gray c0 c1 c2)) (gradY (gray c0 c1 c2))) (bin (gradX (gray c0 c1 c2)) (gradY (gray c0 c1 c2))) smat rmat) pmat

variable (x0 : Vec F S4x3x512x512 .f32) (x1 : Vec F S64x512 .f32) (x2 : Vec F S512x64 .f32) (x3 : Vec F S512x512 .f32)

/-- The block a grid point leaves: the four images' descriptors. -/
theorem out_eq : out0_4 x0 x1 x2 x3 = View.canon [
    ⟨r0_18, image (View.ld x0 r0_15) (View.ld x0 r0_16) (View.ld x0 r0_17) (shapeCast S64x512 (View.ld x1 r0_1) shapeCasts_S64x512_S64x512)
      (shapeCast S512x64 (View.ld x2 r0_0) shapeCasts_S512x64_S512x64) (shapeCast S512x512 (View.ld x3 r0_2) shapeCasts_S512x512_S512x512)⟩,
    ⟨r0_14, image (View.ld x0 r0_11) (View.ld x0 r0_12) (View.ld x0 r0_13) (shapeCast S64x512 (View.ld x1 r0_1) shapeCasts_S64x512_S64x512)
      (shapeCast S512x64 (View.ld x2 r0_0) shapeCasts_S512x64_S512x64) (shapeCast S512x512 (View.ld x3 r0_2) shapeCasts_S512x512_S512x512)⟩,
    ⟨r0_10, image (View.ld x0 r0_7) (View.ld x0 r0_8) (View.ld x0 r0_9) (shapeCast S64x512 (View.ld x1 r0_1) shapeCasts_S64x512_S64x512)
      (shapeCast S512x64 (View.ld x2 r0_0) shapeCasts_S512x64_S512x64) (shapeCast S512x512 (View.ld x3 r0_2) shapeCasts_S512x512_S512x512)⟩,
    ⟨r0_6, image (View.ld x0 r0_3) (View.ld x0 r0_4) (View.ld x0 r0_5) (shapeCast S64x512 (View.ld x1 r0_1) shapeCasts_S64x512_S64x512)
      (shapeCast S512x64 (View.ld x2 r0_0) shapeCasts_S512x64_S512x64) (shapeCast S512x512 (View.ld x3 r0_2) shapeCasts_S512x512_S512x512)⟩] := rfl

end Cert.KernelIdeal.Image
-- ==== Proof.Grid.lean ====
/-
  The gradient of a grey plane at a pixel, in the two forms the programs compute it: as differences of column
  sums (the kernel), and as the nine products of a 3×3 filter (the reference). The plane is surrounded by zeros.
-/
module

public import Idealize.ShloMosaic.Lib.Pointwise

@[expose] public section

noncomputable section

namespace Cert.Grid

open Idealize.ShloMosaic

/-- A plane of numbers, 512 by 512. -/
abbrev Field := Fin 512 → Fin 512 → EReal

/-- The plane with a border of zeros: row and column `1 … 512` are its own, the others hold zero. -/
def padded (g : Field) (r c : ℕ) : EReal :=
  if h : (1 ≤ r ∧ r ≤ 512) ∧ (1 ≤ c ∧ c ≤ 512) then g ⟨r - 1, by omega⟩ ⟨c - 1, by omega⟩ else 0

/-- Inside its border the padded plane is the plane. -/
theorem padded_in (g : Field) (r c : Fin 512) : padded g (r.val + 1) (c.val + 1) = g r c := by
  unfold padded
  rw [dif_pos (by omega)]
  rfl

/-- The padded plane at a position inside the border, the position given by its own row and column. -/
theorem padded_eq (g : Field) (r c : ℕ) (a b : Fin 512) (ha : r = a.val + 1) (hb : c = b.val + 1) : padded g r c = g a b := by
  subst ha hb
  exact padded_in g a b

/-- On the border and beyond it the padded plane is zero. -/
theorem padded_out (g : Field) (r c : ℕ) (h : r = 0 ∨ 512 < r ∨ c = 0 ∨ 512 < c) : padded g r c = 0 := by
  unfold padded
  rw [dif_neg (by omega)]

/-- The column filter `1 2 1`. -/
def colSum (g : Field) (r c : ℕ) : EReal := padded g r c + 2 * padded g (r + 1) c + padded g (r + 2) c

/-- The column filter `-1 0 1`. -/
def colDiff (g : Field) (r c : ℕ) : EReal := padded g (r + 2) c - padded g r c

/-- The horizontal gradient, as a difference of column sums. -/
def diffX (g : Field) (r c : ℕ) : EReal := colSum g r (c + 2) - colSum g r c

/-- The vertical gradient, as a weighted sum of column differences. -/
def diffY (g : Field) (r c : ℕ) : EReal := colDiff g r c + 2 * colDiff g r (c + 1) + colDiff g r (c + 2)

/-- The 3×3 filter `k` at a pixel: nine products, added up row by row. -/
def filter (k : Fin 3 → Fin 3 → EReal) (g : Field) (r c : ℕ) : EReal :=
  k 0 0 * padded g r c + k 0 1 * padded g r (c + 1) + k 0 2 * padded g r (c + 2)
    + k 1 0 * padded g (r + 1) c + k 1 1 * padded g (r + 1) (c + 1) + k 1 2 * padded g (r + 1) (c + 2)
    + k 2 0 * padded g (r + 2) c + k 2 1 * padded g (r + 2) (c + 1) + k 2 2 * padded g (r + 2) (c + 2)

/-- The weighted sum of three numbers in a column is zero on the border. -/
theorem colSum_out (g : Field) (r c : ℕ) (h : c = 0 ∨ 512 < c) : colSum g r c = 0 := by
  unfold colSum
  rw [padded_out g r c (by omega), padded_out g (r + 1) c (by omega), padded_out g (r + 2) c (by omega)]
  simp

/-- The difference of two numbers in a column is zero on the border. -/
theorem colDiff_out (g : Field) (r c : ℕ) (h : c = 0 ∨ 512 < c) : colDiff g r c = 0 := by
  unfold colDiff
  rw [padded_out g r c (by omega), padded_out g (r + 2) c (by omega)]
  simp

end Cert.Grid
-- ==== Proof.Constants.lean ====
/-
  The numbers behind the constants' bit patterns.
-/
module

public import Idealize.ShloMosaic.Lib.Pointwise

@[expose] public section

noncomputable section

namespace Cert.Constants

open Idealize.ShloMosaic

/-- The pattern of two. -/
theorem two : Ideal.ofBits .f32 0x40000000#32 = ((2 : ℝ) : EReal) := by
  simp [Ideal.ofBits, Ideal.ieee, -EReal.coe_mul]
  norm_num

/-- The pattern of minus two. -/
theorem neg_two : Ideal.ofBits .f32 0xC0000000#32 = ((-2 : ℝ) : EReal) := by
  simp [Ideal.ofBits, Ideal.ieee, -EReal.coe_mul]
  norm_num

/-- The pattern of one. -/
theorem one : Ideal.ofBits .f32 0x3F800000#32 = ((1 : ℝ) : EReal) := by
  simp [Ideal.ofBits, Ideal.ieee, -EReal.coe_mul]
  norm_num

/-- The pattern of minus one. -/
theorem neg_one : Ideal.ofBits .f32 0xBF800000#32 = ((-1 : ℝ) : EReal) := by
  simp [Ideal.ofBits, Ideal.ieee, -EReal.coe_mul]
  norm_num

/-- The pattern of eight. -/
theorem eight : Ideal.ofBits .f32 0x41000000#32 = ((8 : ℝ) : EReal) := by
  simp [Ideal.ofBits, Ideal.ieee, -EReal.coe_mul]
  norm_num

/-- The pattern of plus infinity. -/
theorem infinity : Ideal.ofBits .f32 0x7F800000#32 = ⊤ := by
  simp [Ideal.ofBits, Ideal.ieee, -EReal.coe_mul]

/-- The pattern of minus infinity. -/
theorem neg_infinity : Ideal.ofBits .f32 0xFF800000#32 = ⊥ := by
  simp [Ideal.ofBits, Ideal.ieee, -EReal.coe_mul]

/-- The small number that keeps roots and quotients off zero: about a millionth. -/
def tiny : ℝ := 8796093 * (2 : ℝ) ^ (-43 : ℤ)

/-- The small number is positive. -/
theorem tiny_pos : 0 < tiny := by unfold tiny; positivity

/-- Its pattern. -/
theorem tiny_eq : Ideal.ofBits .f32 0x358637BD#32 = (tiny : EReal) := by
  unfold tiny
  simp [Ideal.ofBits, Ideal.ieee, -EReal.coe_mul]

/-- The share of red in the grey value. -/
def red : ℝ := 10029420 * (2 : ℝ) ^ (-25 : ℤ)

/-- The share of green. -/
def green : ℝ := 9848226 * (2 : ℝ) ^ (-24 : ℤ)

/-- The share of blue. -/
def blue : ℝ := 15300821 * (2 : ℝ) ^ (-27 : ℤ)

/-- The weight of red, read from its word. -/
theorem red_eq : Ideal.ofBits .f32 1050216812#32 = (red : EReal) := by
  unfold red
  simp [Ideal.ofBits, Ideal.ieee, -EReal.coe_mul]

/-- The weight of green, read from its word. -/
theorem green_eq : Ideal.ofBits .f32 1058424226#32 = (green : EReal) := by
  unfold green
  simp [Ideal.ofBits, Ideal.ieee, -EReal.coe_mul]

/-- The weight of blue, read from its word. -/
theorem blue_eq : Ideal.ofBits .f32 1038710997#32 = (blue : EReal) := by
  unfold blue
  simp [Ideal.ofBits, Ideal.ieee, -EReal.coe_mul]

end Cert.Constants
-- ==== Proof.Bins.lean ====
/-
  The direction bin of a gradient: the eighth of a turn its angle lies in. The kernel finds it by comparing
  the components and their absolute values, the reference by the angle itself. For finite components
  the two agree.
-/
module

public import proofs.«01_k».proof.Proof.Constants

@[expose] public section

noncomputable section

namespace Cert.Bins

open Idealize.ShloMosaic

/-- The bin by comparisons, for the gradient `(x, y)`. -/
def table (x y : EReal) : BitVec 32 :=
  if y < 0 then
    if x < 0 then if max x (-x) ≤ max y (-y) then 5#32 else 4#32
    else if 0 < x then if max x (-x) < max y (-y) then 6#32 else 7#32 else 6#32
  else if 0 < x then if max x (-x) ≤ max y (-y) then 1#32 else 0#32
  else if x < 0 then if y = 0 then 4#32 else if max x (-x) < max y (-y) then 2#32 else 3#32
  else if y = 0 then 0#32 else 2#32

/-- A comparison's bin is one of the eight. -/
theorem table_range (x y : EReal) : 0 ≤ (table x y).toInt ∧ (table x y).toInt < 8 := by
  unfold table
  split_ifs <;> decide

/-- A bin number as an index: negative ones count from the end. -/
def indexed (q : BitVec 32) : BitVec 32 := Scalar.select (IntOp.cmpi .slt q 0#32) (IntOp.addi q 8#32) q

/-- A bin of the table is already a place in the histogram: it is not negative, so nothing is added to it. -/
theorem indexed_table (x y : EReal) : indexed (table x y) = table x y := by
  unfold table
  split_ifs <;> decide

/-- The angle of a finite vector, by quadrant. -/
theorem atan2_coe (a b : ℝ) : Ideal.atan2 (b : EReal) (a : EReal) =
    ((if 0 < a then Real.arctan (b / a)
      else if a < 0 then (if 0 ≤ b then Real.arctan (b / a) + Real.pi else Real.arctan (b / a) - Real.pi)
      else if 0 < b then Real.pi / 2 else if b < 0 then -(Real.pi / 2) else 0 : ℝ) : EReal) := rfl

/-- A full turn, as twice the angle of the point `(-1, 0)`. -/
def turn : EReal := Ideal.ofBits .f32 0x40000000#32 * Ideal.atan2 0 (Ideal.ofBits .f32 0xBF800000#32)

/-- A full turn, twice the angle of the point minus one, is two pi. -/
theorem turn_eq : turn = ((2 * Real.pi : ℝ) : EReal) := by
  unfold turn
  rw [Constants.two, Constants.neg_one, ← EReal.coe_zero]
  have h : Ideal.atan2 ((0 : ℝ) : EReal) ((-1 : ℝ) : EReal) = ((Real.pi : ℝ) : EReal) := by
    rw [atan2_coe]
    norm_num
  rw [h, ← EReal.coe_mul]

/-- The remainder of an angle by a full turn, made nonnegative. -/
def wrapped (u : EReal) : EReal :=
  Scalar.select (IntOp.andi (IntOp.cmpi .ne (BitVec.ofBool (decide (u < 0))) (BitVec.ofBool (decide (turn < 0))))
    (BitVec.ofBool (decide (u ≠ 0)))) (u + turn) u

/-- The number of whole eighths of a turn in an angle. -/
def eighths (v : EReal) : BitVec 32 := Ideal.fptosi 32 (Ideal.div v (Ideal.div turn (Ideal.ofBits .f32 0x41000000#32)))

/-- The divisor of the bin number: eight, guarded against zero. -/
def eight : BitVec 32 := Scalar.select (IntOp.cmpi .eq 8#32 0#32) 1#32 8#32

/-- The remainder by eight, made nonnegative. -/
def modulo (q : BitVec 32) : BitVec 32 :=
  Scalar.select (IntOp.andi (IntOp.cmpi .ne (IntOp.cmpi .slt (IntOp.remsi .host q eight) 0#32) (IntOp.cmpi .slt eight 0#32))
    (IntOp.cmpi .ne (IntOp.remsi .host q eight) 0#32)) (IntOp.addi (IntOp.remsi .host q eight) eight) (IntOp.remsi .host q eight)

/-- The bin by the angle. -/
def angular (x y : EReal) : BitVec 32 := modulo (eighths (wrapped (Ideal.remf (Ideal.atan2 y x) turn)))

/-- The bin numbers are their own remainders. -/
theorem modulo_small (k : Fin 8) : modulo (BitVec.ofNat 32 k.val) = BitVec.ofNat 32 k.val := by
  revert k
  decide +kernel

/-- The angle of a vector with an infinite component is no angle; its bin is the first. -/
theorem angular_bot (x y : EReal) (h : (x = ⊤ ∨ x = ⊥) ∨ (y = ⊤ ∨ y = ⊥)) : angular x y = 0#32 := by
  have ha : Ideal.atan2 y x = ⊥ := by
    rcases h with (rfl | rfl) | (rfl | rfl)
    · induction y <;> rfl
    · induction y <;> rfl
    · induction x <;> rfl
    · induction x <;> rfl
  unfold angular
  rw [ha]
  have hr : Ideal.remf ⊥ turn = ⊥ := by
    rw [turn_eq]
    rfl
  have hw : wrapped ⊥ = ⊥ := by
    unfold wrapped
    rw [turn_eq, ← EReal.coe_zero]
    simp only [EReal.coe_lt_coe_iff]
    rw [decide_eq_true (EReal.bot_lt_coe 0), decide_eq_false (by have := Real.pi_pos; linarith), EReal.bot_add]
    exact ite_self _
  have he : eighths ⊥ = BitVec.ofInt 32 (-(2 ^ 31 : Nat)) := by
    unfold eighths
    rw [turn_eq, Constants.eight, Ideal.div_coe (by norm_num), ← EReal.coe_mul, Ideal.div_coe (by have := Real.pi_pos; positivity),
      EReal.bot_mul_coe_of_pos (by have := Real.pi_pos; positivity)]
    rfl
  rw [hr, hw, he]
  decide +kernel

/-- The eighths of an angle that lies in the `k`-th eighth of the turn. -/
theorem eighths_of_sector (φ : ℝ) (k : Fin 8) (h1 : k.val * (Real.pi / 4) ≤ φ) (h2 : φ < (k.val + 1) * (Real.pi / 4)) :
    eighths (φ : EReal) = BitVec.ofNat 32 k.val := by
  have hp := Real.pi_pos
  unfold eighths
  rw [turn_eq, Constants.eight, Ideal.div_coe (by norm_num), ← EReal.coe_mul, Ideal.div_coe (by positivity), ← EReal.coe_mul]
  have hq : φ * (1 / (2 * Real.pi * (1 / 8))) = φ / (Real.pi / 4) := by
    field_simp
    ring
  rw [hq]
  have hfloor : ⌊φ / (Real.pi / 4)⌋ = (k.val : ℤ) := by
    rw [Int.floor_eq_iff]
    constructor
    · rw [le_div_iff₀ (by positivity)]
      exact_mod_cast h1
    · rw [div_lt_iff₀ (by positivity)]
      exact_mod_cast h2
  have hpos : 0 ≤ φ / (Real.pi / 4) := div_nonneg (le_trans (by positivity) h1) (by positivity)
  show BitVec.ofInt 32 (max _ (min _ (if 0 ≤ φ / (Real.pi / 4) then ⌊φ / (Real.pi / 4)⌋ else ⌈φ / (Real.pi / 4)⌉))) = _
  rw [if_pos hpos, hfloor]
  clear hfloor hpos hq h1 h2
  revert k
  decide +kernel

/-- The remainder by a full turn changes nothing between minus half a turn and half a turn. -/
theorem remf_small (θ : ℝ) (h1 : -Real.pi ≤ θ) (h2 : θ ≤ Real.pi) : Ideal.remf (θ : EReal) turn = (θ : EReal) := by
  have hp := Real.pi_pos
  rw [turn_eq, Ideal.remf_coe, if_neg (by positivity)]
  have ht : Ideal.truncInt (θ / (2 * Real.pi)) = 0 := by
    unfold Ideal.truncInt
    have hl : θ / (2 * Real.pi) < 1 := by
      rw [div_lt_iff₀ (by positivity)]
      linarith
    have hg : -1 < θ / (2 * Real.pi) := by
      rw [lt_div_iff₀ (by positivity)]
      linarith
    split_ifs with h
    · rw [Int.floor_eq_iff]
      constructor
      · simpa using h
      · simpa using hl
    · rw [Int.ceil_eq_iff]
      constructor
      · simpa using hg
      · simpa using (not_le.mp h).le
  rw [ht]
  simp

/-- A nonnegative remainder stays. -/
theorem wrapped_nonneg (θ : ℝ) (h : 0 ≤ θ) : wrapped (θ : EReal) = (θ : EReal) := by
  have hp := Real.pi_pos
  unfold wrapped
  rw [turn_eq, ← EReal.coe_zero]
  simp only [EReal.coe_lt_coe_iff]
  rw [decide_eq_false (not_lt.mpr h), decide_eq_false (not_lt.mpr (by positivity))]
  exact if_neg (by
    unfold IntOp.andi IntOp.cmpi
    simp)

/-- A negative remainder is raised by a full turn. -/
theorem wrapped_neg (θ : ℝ) (h : θ < 0) : wrapped (θ : EReal) = ((θ + 2 * Real.pi : ℝ) : EReal) := by
  have hp := Real.pi_pos
  unfold wrapped
  rw [turn_eq, ← EReal.coe_zero]
  simp only [EReal.coe_lt_coe_iff, ne_eq, EReal.coe_eq_coe_iff]
  rw [decide_eq_true h, decide_eq_false (not_lt.mpr (by positivity)), decide_eq_true h.ne]
  exact if_pos (by decide)

/-- The bin of a vector whose angle, counted from zero to a full turn, lies in the `k`-th eighth. -/
theorem angular_pos (x y : EReal) (θ : ℝ) (k : Fin 8) (h : Ideal.atan2 y x = (θ : EReal)) (hθ : θ ≤ Real.pi)
    (h1 : k.val * (Real.pi / 4) ≤ θ) (h2 : θ < (k.val + 1) * (Real.pi / 4)) : angular x y = BitVec.ofNat 32 k.val := by
  have hp := Real.pi_pos
  have h0 : 0 ≤ θ := le_trans (by positivity) h1
  unfold angular
  rw [h, remf_small θ (by linarith) hθ, wrapped_nonneg θ h0, eighths_of_sector θ k h1 h2, modulo_small]

/-- The bin of a vector with a negative angle. -/
theorem angular_neg (x y : EReal) (θ : ℝ) (k : Fin 8) (h : Ideal.atan2 y x = (θ : EReal)) (hθ : -Real.pi ≤ θ) (h0 : θ < 0)
    (h1 : k.val * (Real.pi / 4) ≤ θ + 2 * Real.pi) (h2 : θ + 2 * Real.pi < (k.val + 1) * (Real.pi / 4)) :
    angular x y = BitVec.ofNat 32 k.val := by
  have hp := Real.pi_pos
  unfold angular
  rw [h, remf_small θ hθ (by linarith), wrapped_neg θ h0, eighths_of_sector _ k h1 h2, modulo_small]

/-- The angle's value for a vector with positive horizontal component. -/
theorem atan2_right (a b : ℝ) (h : 0 < a) : Ideal.atan2 (b : EReal) (a : EReal) = ((Real.arctan (b / a) : ℝ) : EReal) := by
  rw [atan2_coe, if_pos h]

/-- The angle's value on the left, upper half. -/
theorem atan2_left_up (a b : ℝ) (h : a < 0) (hb : 0 ≤ b) :
    Ideal.atan2 (b : EReal) (a : EReal) = ((Real.arctan (b / a) + Real.pi : ℝ) : EReal) := by
  rw [atan2_coe, if_neg h.le.not_gt, if_pos h, if_pos hb]

/-- The angle's value on the left, lower half. -/
theorem atan2_left_down (a b : ℝ) (h : a < 0) (hb : b < 0) :
    Ideal.atan2 (b : EReal) (a : EReal) = ((Real.arctan (b / a) - Real.pi : ℝ) : EReal) := by
  rw [atan2_coe, if_neg h.le.not_gt, if_pos h, if_neg hb.not_ge]

/-- The angle's value on the vertical axis. -/
theorem atan2_axis (b : ℝ) :
    Ideal.atan2 (b : EReal) ((0 : ℝ) : EReal) = ((if 0 < b then Real.pi / 2 else if b < 0 then -(Real.pi / 2) else 0 : ℝ) : EReal) := by
  have h00 : ¬(0 : ℝ) < 0 := lt_irrefl 0
  simp only [atan2_coe, if_neg h00]

/-- The arctangent's range of a nonnegative number up to one. -/
theorem arctan_low (t : ℝ) (h0 : 0 ≤ t) (h1 : t < 1) : 0 ≤ Real.arctan t ∧ Real.arctan t < Real.pi / 4 := by
  constructor
  · exact Real.arctan_zero ▸ Real.arctan_strictMono.monotone h0
  · exact Real.arctan_one ▸ Real.arctan_strictMono h1

/-- From one on, the arc tangent is at least an eighth of a turn and less than a quarter. -/
theorem arctan_high (t : ℝ) (h1 : 1 ≤ t) : Real.pi / 4 ≤ Real.arctan t ∧ Real.arctan t < Real.pi / 2 :=
  ⟨Real.arctan_one ▸ Real.arctan_strictMono.monotone h1, Real.arctan_lt_pi_div_two t⟩

/-- The same ends the other way round, for an angle measured downwards. -/
theorem arctan_low' (t : ℝ) (h0 : 0 < t) (h1 : t ≤ 1) : 0 < Real.arctan t ∧ Real.arctan t ≤ Real.pi / 4 := by
  constructor
  · exact Real.arctan_zero ▸ Real.arctan_strictMono h0
  · exact Real.arctan_one ▸ Real.arctan_strictMono.monotone h1

/-- Past one, the arc tangent is more than an eighth of a turn and less than a quarter. -/
theorem arctan_high' (t : ℝ) (h1 : 1 < t) : Real.pi / 4 < Real.arctan t ∧ Real.arctan t < Real.pi / 2 :=
  ⟨Real.arctan_one ▸ Real.arctan_strictMono h1, Real.arctan_lt_pi_div_two t⟩

/-- The comparisons' bin for finite components, over the reals. -/
theorem table_coe (a b : ℝ) : table (a : EReal) (b : EReal) =
    if b < 0 then
      if a < 0 then if |a| ≤ |b| then 5#32 else 4#32
      else if 0 < a then if |a| < |b| then 6#32 else 7#32 else 6#32
    else if 0 < a then if |a| ≤ |b| then 1#32 else 0#32
    else if a < 0 then if b = 0 then 4#32 else if |a| < |b| then 2#32 else 3#32
    else if b = 0 then 0#32 else 2#32 := by
  have hm : ∀ c : ℝ, max (c : EReal) (-(c : EReal)) = ((|c| : ℝ) : EReal) := fun c => by
    rw [← EReal.coe_neg]
    exact (EReal.coe_strictMono.monotone.map_max).symm
  unfold table
  simp only [hm, ← EReal.coe_zero, EReal.coe_lt_coe_iff, EReal.coe_le_coe_iff, EReal.coe_eq_coe_iff]

/-- The two ways of finding the bin agree on a finite gradient. -/
theorem angular_eq (a b : ℝ) : angular (a : EReal) (b : EReal) = table (a : EReal) (b : EReal) := by
  have hp := Real.pi_pos
  rw [table_coe]
  rcases lt_trichotomy a 0 with ha | ha | ha
  · rcases lt_or_ge b 0 with hb | hb
    · rw [if_pos hb, if_pos ha, abs_of_neg ha, abs_of_neg hb]
      have hat := atan2_left_down a b ha hb
      split_ifs with h
      · have hq := arctan_high (b / a) (by rw [one_le_div_of_neg ha]; linarith)
        exact angular_neg _ _ _ 5 hat (by linarith) (by linarith) (by norm_num; linarith) (by norm_num; linarith)
      · have hq := arctan_low (b / a) (div_nonneg_of_nonpos hb.le ha.le) (by rw [div_lt_one_of_neg ha]; linarith)
        exact angular_neg _ _ _ 4 hat (by linarith) (by linarith) (by norm_num; linarith) (by norm_num; linarith)
    · rw [if_neg hb.not_gt, if_neg ha.not_gt, if_pos ha, abs_of_neg ha, abs_of_nonneg hb]
      have hat := atan2_left_up a b ha hb
      rcases eq_or_lt_of_le hb with hb0 | hb0
      · subst hb0
        rw [if_pos rfl]
        simp only [zero_div, Real.arctan_zero, zero_add] at hat
        exact angular_pos _ _ _ 4 hat (by linarith) (by norm_num; linarith) (by norm_num; linarith)
      · rw [if_neg hb0.ne']
        have hn : Real.arctan (b / a) = -Real.arctan (b / -a) := by rw [← Real.arctan_neg, div_neg, neg_neg]
        rw [hn] at hat
        split_ifs with h
        · have hq := arctan_high' (b / -a) (by rw [one_lt_div (by linarith)]; exact h)
          exact angular_pos _ _ _ 2 hat (by linarith) (by norm_num; linarith) (by norm_num; linarith)
        · have hq := arctan_low' (b / -a) (div_pos hb0 (by linarith)) (by rw [div_le_one (by linarith)]; linarith)
          exact angular_pos _ _ _ 3 hat (by linarith) (by norm_num; linarith) (by norm_num; linarith)
  · subst ha
    have hat := atan2_axis b
    have h00 : ¬(0 : ℝ) < 0 := lt_irrefl 0
    simp only [if_neg h00]
    rcases lt_trichotomy b 0 with hb | hb | hb
    · rw [if_pos hb]
      rw [if_neg hb.not_gt, if_pos hb] at hat
      exact angular_neg _ _ _ 6 hat (by linarith) (by linarith) (by norm_num; linarith) (by norm_num; linarith)
    · subst hb
      simp only [if_neg h00, if_true] at hat ⊢
      exact angular_pos _ _ _ 0 hat (by linarith) (by norm_num) (by norm_num; linarith)
    · rw [if_pos hb] at hat
      rw [if_neg hb.not_gt, if_neg hb.ne']
      exact angular_pos _ _ _ 2 hat (by linarith) (by norm_num; linarith) (by norm_num; linarith)
  · have hat := atan2_right a b ha
    rcases lt_or_ge b 0 with hb | hb
    · rw [if_pos hb, if_neg ha.not_gt, if_pos ha, abs_of_pos ha, abs_of_neg hb]
      have hn : Real.arctan (b / a) = -Real.arctan (-b / a) := by rw [← Real.arctan_neg, neg_div, neg_neg]
      rw [hn] at hat
      split_ifs with h
      · have hq := arctan_high' (-b / a) (by rw [one_lt_div ha]; exact h)
        exact angular_neg _ _ _ 6 hat (by linarith) (by linarith) (by norm_num; linarith) (by norm_num; linarith)
      · have hq := arctan_low' (-b / a) (div_pos (by linarith) ha) (by rw [div_le_one ha]; linarith)
        exact angular_neg _ _ _ 7 hat (by linarith) (by linarith) (by norm_num; linarith) (by norm_num; linarith)
    · rw [if_neg hb.not_gt, if_pos ha, abs_of_pos ha, abs_of_nonneg hb]
      split_ifs with h
      · have hq := arctan_high (b / a) (by rw [one_le_div ha]; exact h)
        exact angular_pos _ _ _ 1 hat (by linarith) (by norm_num; linarith) (by norm_num; linarith)
      · have hq := arctan_low (b / a) (div_nonneg hb ha.le) (by rw [div_lt_one ha]; linarith)
        exact angular_pos _ _ _ 0 hat (by linarith) (by simpa using hq.1) (by norm_num; linarith)

end Cert.Bins
-- ==== Proof.Gradient.lean ====
/-
  The two forms of the gradient compared, pixel by pixel. Where the eight neighbours are finite they agree, and so do
  the lengths and the bins. Where one of the neighbours is infinite the length is infinite in both forms.
-/
module

public import proofs.«01_k».proof.Proof.Grid
public import proofs.«01_k».proof.Proof.Bins

@[expose] public section

noncomputable section

namespace Cert.Grid

open Idealize.ShloMosaic Cert.Bins Cert.Constants

/-- Sobel's horizontal filter. -/
def sobelX : Fin 3 → Fin 3 → EReal := fun i j => ((![![-1, 0, 1], ![-2, 0, 2], ![-1, 0, 1]] i j : ℝ) : EReal)

/-- Sobel's vertical filter. -/
def sobelY : Fin 3 → Fin 3 → EReal := fun i j => ((![![-1, -2, -1], ![0, 0, 0], ![1, 2, 1]] i j : ℝ) : EReal)

/-- The number two, as the kernel multiplies by it. -/
theorem two_coe : (2 : EReal) = ((2 : ℝ) : EReal) := rfl

/-- A finite plane's border values are finite. -/
theorem padded_coe (f : Fin 512 → Fin 512 → ℝ) (r c : ℕ) :
    ∃ p : ℝ, padded (fun a b => (f a b : EReal)) r c = (p : EReal) := by
  unfold padded
  split_ifs with h
  · exact ⟨_, rfl⟩
  · exact ⟨0, rfl⟩

/-- On a finite plane the difference of column sums is Sobel's horizontal filter, and it is finite. -/
theorem diffX_coe (f : Fin 512 → Fin 512 → ℝ) (r c : ℕ) :
    ∃ x : ℝ, diffX (fun a b => (f a b : EReal)) r c = (x : EReal) ∧ filter sobelX (fun a b => (f a b : EReal)) r c = (x : EReal) := by
  obtain ⟨p00, h00⟩ := padded_coe f r c
  obtain ⟨p01, h01⟩ := padded_coe f r (c + 1)
  obtain ⟨p02, h02⟩ := padded_coe f r (c + 2)
  obtain ⟨p10, h10⟩ := padded_coe f (r + 1) c
  obtain ⟨p11, h11⟩ := padded_coe f (r + 1) (c + 1)
  obtain ⟨p12, h12⟩ := padded_coe f (r + 1) (c + 2)
  obtain ⟨p20, h20⟩ := padded_coe f (r + 2) c
  obtain ⟨p21, h21⟩ := padded_coe f (r + 2) (c + 1)
  obtain ⟨p22, h22⟩ := padded_coe f (r + 2) (c + 2)
  refine ⟨(p02 + 2 * p12 + p22) - (p00 + 2 * p10 + p20), ?_, ?_⟩
  · simp only [diffX, colSum, h00, h02, h10, h12, h20, h22, two_coe, ← EReal.coe_mul, ← EReal.coe_add, ← EReal.coe_sub]
  · simp only [filter, sobelX, h00, h01, h02, h10, h11, h12, h20, h21, h22, ← EReal.coe_mul, ← EReal.coe_add]
    congr 1
    simp
    ring

/-- On a finite plane the sum of column differences is Sobel's vertical filter, and it is finite. -/
theorem diffY_coe (f : Fin 512 → Fin 512 → ℝ) (r c : ℕ) :
    ∃ y : ℝ, diffY (fun a b => (f a b : EReal)) r c = (y : EReal) ∧ filter sobelY (fun a b => (f a b : EReal)) r c = (y : EReal) := by
  obtain ⟨p00, h00⟩ := padded_coe f r c
  obtain ⟨p01, h01⟩ := padded_coe f r (c + 1)
  obtain ⟨p02, h02⟩ := padded_coe f r (c + 2)
  obtain ⟨p10, h10⟩ := padded_coe f (r + 1) c
  obtain ⟨p11, h11⟩ := padded_coe f (r + 1) (c + 1)
  obtain ⟨p12, h12⟩ := padded_coe f (r + 1) (c + 2)
  obtain ⟨p20, h20⟩ := padded_coe f (r + 2) c
  obtain ⟨p21, h21⟩ := padded_coe f (r + 2) (c + 1)
  obtain ⟨p22, h22⟩ := padded_coe f (r + 2) (c + 2)
  refine ⟨(p20 - p00) + 2 * (p21 - p01) + (p22 - p02), ?_, ?_⟩
  · simp only [diffY, colDiff, h00, h01, h02, h20, h21, h22, two_coe, ← EReal.coe_mul, ← EReal.coe_add, ← EReal.coe_sub]
  · simp only [filter, sobelY, h00, h01, h02, h10, h11, h12, h20, h21, h22, ← EReal.coe_mul, ← EReal.coe_add]
    congr 1
    simp
    ring

/-- One of the two infinities. -/
def Infinite (x : EReal) : Prop := x = ⊤ ∨ x = ⊥

/-- A number is infinite or real. -/
theorem infinite_or (x : EReal) : Infinite x ∨ ∃ r : ℝ, x = (r : EReal) := by
  induction x with
  | bot => exact .inl (.inr rfl)
  | top => exact .inl (.inl rfl)
  | coe r => exact .inr ⟨r, rfl⟩

/-- A sum whose first term is infinite is infinite. -/
theorem Infinite.add_left {x : EReal} (h : Infinite x) (y : EReal) : Infinite (x + y) := by
  rcases h with rfl | rfl
  · induction y with
    | bot => exact .inr (EReal.add_bot ⊤)
    | top => exact .inl EReal.top_add_top
    | coe r => exact .inl (EReal.top_add_coe r)
  · exact .inr (EReal.bot_add y)

/-- A sum whose second term is infinite is infinite. -/
theorem Infinite.add_right {y : EReal} (h : Infinite y) (x : EReal) : Infinite (x + y) := by
  rw [add_comm]
  exact h.add_left x

/-- The opposite of an infinite number is infinite. -/
theorem Infinite.neg {x : EReal} (h : Infinite x) : Infinite (-x) := by
  rcases h with rfl | rfl
  · exact .inr EReal.neg_top
  · exact .inl EReal.neg_bot

/-- A difference from an infinite number is infinite. -/
theorem Infinite.sub_left {x : EReal} (h : Infinite x) (y : EReal) : Infinite (x - y) := by
  rw [sub_eq_add_neg]
  exact h.add_left _

/-- A difference by an infinite number is infinite. -/
theorem Infinite.sub_right {y : EReal} (h : Infinite y) (x : EReal) : Infinite (x - y) := by
  rw [sub_eq_add_neg]
  exact h.neg.add_right _

/-- A nonzero multiple of an infinite number is infinite. -/
theorem Infinite.mul {x : EReal} (h : Infinite x) (a : ℝ) (ha : a ≠ 0) : Infinite ((a : EReal) * x) := by
  rcases lt_or_gt_of_ne ha with hn | hp
  · rcases h with rfl | rfl
    · exact .inr (EReal.coe_mul_top_of_neg hn)
    · exact .inl (EReal.coe_mul_bot_of_neg hn)
  · rcases h with rfl | rfl
    · exact .inl (EReal.coe_mul_top_of_pos hp)
    · exact .inr (EReal.coe_mul_bot_of_pos hp)

/-- The square of an infinite number. -/
theorem Infinite.square {x : EReal} (h : Infinite x) : x * x = ⊤ := by
  rcases h with rfl | rfl
  · exact EReal.top_mul_top
  · exact EReal.bot_mul_bot

/-- A square is not negative. -/
theorem square_nonneg (x : EReal) : 0 ≤ x * x := by
  rcases infinite_or x with h | ⟨r, rfl⟩
  · rw [h.square]
    exact le_top
  · rw [← EReal.coe_mul]
    exact_mod_cast mul_self_nonneg r

/-- A root of a number that is not negative is not negative. -/
theorem sqrt_nonneg {x : EReal} (h : 0 ≤ x) : 0 ≤ Ideal.sqrt x := by
  rcases infinite_or x with (rfl | rfl) | ⟨r, rfl⟩
  · exact le_top
  · exact absurd h (by simp)
  · have hr : 0 ≤ r := by exact_mod_cast h
    rw [Ideal.sqrt_coe, if_neg hr.not_gt]
    exact_mod_cast Real.sqrt_nonneg r

/-- The length of a gradient, kept off zero. -/
def length (x y : EReal) : EReal := Ideal.sqrt (x * x + y * y + (tiny : EReal))

/-- A gradient with an infinite component has an infinite length. -/
theorem length_infinite (x y : EReal) (h : Infinite x) : length x y = ⊤ := by
  unfold length
  have h1 : ⊤ + y * y = ⊤ := EReal.top_add_of_ne_bot (fun hb => absurd (square_nonneg y) (by rw [hb]; simp))
  rw [h.square, h1, EReal.top_add_coe]
  rfl

/-- The length does not depend on the order of the components. -/
theorem length_comm (x y : EReal) : length x y = length y x := by
  unfold length
  rw [add_comm (x * x)]

/-- A gradient with finite components has a finite length. -/
theorem length_coe (x y : ℝ) : ∃ m : ℝ, length (x : EReal) (y : EReal) = (m : EReal) := by
  unfold length
  rw [← EReal.coe_mul, ← EReal.coe_mul, ← EReal.coe_add, ← EReal.coe_add, Ideal.sqrt_coe,
    if_neg (not_lt.mpr (add_nonneg (add_nonneg (mul_self_nonneg x) (mul_self_nonneg y)) tiny_pos.le))]
  exact ⟨_, rfl⟩

/-- A sum with an infinite term is infinite. -/
theorem infinite_sum {ι : Type} [DecidableEq ι] (s : Finset ι) (f : ι → EReal) (i : ι) (hi : i ∈ s) (h : Infinite (f i)) :
    Infinite (∑ x ∈ s, f x) := by
  rw [← Finset.add_sum_erase s f hi]
  exact h.add_left _

/-- The nine products as a double sum. -/
theorem filter_sum (k : Fin 3 → Fin 3 → EReal) (g : Field) (r c : ℕ) :
    filter k g r c = ∑ i : Fin 3, ∑ j : Fin 3, k i j * padded g (r + i.val) (c + j.val) := by
  simp only [Fin.sum_univ_three, ← add_assoc]
  rfl

/-- A filter over an infinite pixel is infinite, if the pixel's coefficient is not zero. -/
theorem filter_infinite (k : Fin 3 → Fin 3 → ℝ) (g : Field) (r c : ℕ) (i j : Fin 3) (hk : k i j ≠ 0)
    (h : Infinite (padded g (r + i.val) (c + j.val))) : Infinite (filter (fun a b => (k a b : EReal)) g r c) := by
  rw [filter_sum]
  exact infinite_sum _ _ i (Finset.mem_univ i) (infinite_sum _ _ j (Finset.mem_univ j) (h.mul _ hk))

/-- A column sum through an infinite pixel is infinite. -/
theorem colSum_infinite (g : Field) (r c : ℕ) (i : Fin 3) (h : Infinite (padded g (r + i.val) c)) : Infinite (colSum g r c) := by
  unfold colSum
  fin_cases i
  · exact (Infinite.add_left h _).add_left _
  · exact ((Infinite.mul h 2 (by norm_num)).add_right _).add_left _
  · exact Infinite.add_right h _

/-- The two forms of both components, for an infinite neighbour that is not the middle: one component is infinite in both. -/
theorem gradient_infinite (g : Field) (r c : ℕ) (i j : Fin 3) (hij : i ≠ 1 ∨ j ≠ 1) (h : Infinite (padded g (r + i.val) (c + j.val))) :
    (Infinite (diffX g r c) ∧ Infinite (filter sobelX g r c)) ∨ (Infinite (diffY g r c) ∧ Infinite (filter sobelY g r c)) := by
  by_cases hj : j = 1
  · right
    subst hj
    have hi : i ≠ 1 := hij.resolve_right (fun e => e rfl)
    refine ⟨?_, filter_infinite _ g r c i 1 (by fin_cases i <;> simp at hi ⊢) h⟩
    unfold diffY
    refine Infinite.add_left (Infinite.add_right (Infinite.mul ?_ 2 (by norm_num)) _) _
    unfold colDiff
    fin_cases i
    · exact Infinite.sub_right h _
    · exact absurd rfl hi
    · exact Infinite.sub_left h _
  · left
    refine ⟨?_, filter_infinite _ g r c i j (by fin_cases i <;> fin_cases j <;> simp at hj ⊢) h⟩
    unfold diffX
    fin_cases j
    · exact (colSum_infinite g r c i h).sub_right _
    · exact absurd rfl hj
    · exact (colSum_infinite g r (c + 2) i h).sub_left _

/-- A plane with its infinite pixels replaced by zero. -/
def realPart (g : Field) : Fin 512 → Fin 512 → ℝ := fun a b => (g a b).toReal

/-- Where the padded plane is finite, the replacement changes nothing. -/
theorem padded_real (g : Field) (r c : ℕ) (h : ¬Infinite (padded g r c)) :
    padded g r c = padded (fun a b => (realPart g a b : EReal)) r c := by
  unfold padded at h ⊢
  split_ifs with hin
  · rw [dif_pos hin] at h
    exact (EReal.coe_toReal (fun e => h (.inl e)) (fun e => h (.inr e))).symm
  · rfl

/-- With finite neighbours the two forms of both components are finite and agree, whatever is in the middle. -/
theorem gradient_finite (g : Field) (r c : ℕ) (h : ∀ i j : Fin 3, i ≠ 1 ∨ j ≠ 1 → ¬Infinite (padded g (r + i.val) (c + j.val))) :
    ∃ x y : ℝ, (diffX g r c = (x : EReal) ∧ filter sobelX g r c = (x : EReal)) ∧ (diffY g r c = (y : EReal) ∧ filter sobelY g r c = (y : EReal)) := by
  have p00 := padded_real g r c (h 0 0 (by decide))
  have p01 := padded_real g r (c + 1) (h 0 1 (by decide))
  have p02 := padded_real g r (c + 2) (h 0 2 (by decide))
  have p10 := padded_real g (r + 1) c (h 1 0 (by decide))
  have p12 := padded_real g (r + 1) (c + 2) (h 1 2 (by decide))
  have p20 := padded_real g (r + 2) c (h 2 0 (by decide))
  have p21 := padded_real g (r + 2) (c + 1) (h 2 1 (by decide))
  have p22 := padded_real g (r + 2) (c + 2) (h 2 2 (by decide))
  obtain ⟨x, hx, hx'⟩ := diffX_coe (realPart g) r c
  obtain ⟨y, hy, hy'⟩ := diffY_coe (realPart g) r c
  have zx : sobelX 1 1 = 0 := rfl
  have zy : sobelY 1 1 = 0 := rfl
  refine ⟨x, y, ⟨?_, ?_⟩, ?_, ?_⟩
  · rw [← hx]
    simp only [diffX, colSum, p00, p10, p20, p02, p12, p22]
  · rw [← hx']
    simp only [filter, zx, zero_mul, p00, p01, p02, p10, p12, p20, p21, p22]
  · rw [← hy]
    simp only [diffY, colDiff, p00, p01, p02, p20, p21, p22]
  · rw [← hy']
    simp only [filter, zy, zero_mul, p00, p01, p02, p10, p12, p20, p21, p22]

/-- The kernel's lengths. -/
def lengthK (g : Field) : Field := fun r c => length (diffX g r.val c.val) (diffY g r.val c.val)

/-- The kernel's bins. -/
def binK (g : Field) (r c : Fin 512) : ℤ := (table (diffX g r.val c.val) (diffY g r.val c.val)).toInt

/-- The reference's lengths. -/
def lengthR (g : Field) : Field := fun r c => length (filter sobelX g r.val c.val) (filter sobelY g r.val c.val)

/-- The reference's bins. -/
def binR (g : Field) (r c : Fin 512) : ℤ := (indexed (angular (filter sobelX g r.val c.val) (filter sobelY g r.val c.val))).toInt

/-- At every pixel the two forms both have an infinite length in one of the eight bins, or the same finite length in the same bin. -/
theorem pixel (g : Field) (r c : Fin 512) :
    (lengthK g r c = ⊤ ∧ lengthR g r c = ⊤ ∧ (0 ≤ binK g r c ∧ binK g r c < 8) ∧ (0 ≤ binR g r c ∧ binR g r c < 8)) ∨
    ∃ m : ℝ, lengthK g r c = (m : EReal) ∧ lengthR g r c = (m : EReal) ∧ binK g r c = binR g r c := by
  by_cases hf : ∃ i j : Fin 3, (i ≠ 1 ∨ j ≠ 1) ∧ Infinite (padded g (r.val + i.val) (c.val + j.val))
  · left
    obtain ⟨i, j, hij, h⟩ := hf
    unfold lengthK lengthR binR
    rcases gradient_infinite g r.val c.val i j hij h with ⟨hk, hr⟩ | ⟨hk, hr⟩
    · refine ⟨length_infinite _ _ hk, length_infinite _ _ hr, table_range _ _, ?_⟩
      rw [angular_bot _ _ (.inl hr)]
      decide +kernel
    · refine ⟨?_, ?_, table_range _ _, ?_⟩
      · rw [length_comm, length_infinite _ _ hk]
      · rw [length_comm, length_infinite _ _ hr]
      · rw [angular_bot _ _ (.inr hr)]
        decide +kernel
  · right
    obtain ⟨x, y, ⟨hx, hx'⟩, hy, hy'⟩ := gradient_finite g r.val c.val (fun i j hij h => hf ⟨i, j, hij, h⟩)
    obtain ⟨m, hm⟩ := length_coe x y
    refine ⟨m, ?_, ?_, ?_⟩
    · simp only [lengthK, hx, hy, hm]
    · simp only [lengthR, hx', hy', hm]
    · simp only [binK, binR, hx, hx', hy, hy', angular_eq, indexed_table]

/-- The grey plane of three channels. -/
def grey (c0 c1 c2 : Field) : Field := fun r c => (red : EReal) * c0 r c + (green : EReal) * c1 r c + (blue : EReal) * c2 r c

end Cert.Grid
-- ==== Proof.Cells.lean ====
/-
  The descriptor of one image from its lengths and bins, in both programs. A cell is eight pixels by eight; its bin's
  number is the weighted sum of the lengths of its pixels in that bin, and everything is divided by the norm of
  all the numbers of the image. The reference weighs each pixel; the kernel weighs the columns and then the rows.
  The weights may have any sign, so an infinite length is followed through both sums.
-/
module

public import proofs.«01_k».proof.Proof.Gradient

@[expose] public section

noncomputable section

namespace Cert.Cells

open Idealize.ShloMosaic Cert.Grid Cert.Constants

/-- Row or column `i` of cell `r`. -/
def pix (r : Fin 64) (i : Fin 8) : Fin 512 := ⟨8 * r.val + i.val, by omega⟩

/-- The weighted sum of a cell's lengths in one bin. -/
def cell (M : Field) (K : Fin 512 → Fin 512 → ℤ) (w : Fin 8 → Fin 8 → ℝ) (k : Fin 8) (r c : Fin 64) : EReal :=
  ∑ i : Fin 8, ∑ j : Fin 8, if K (pix r i) (pix c j) = (k.val : ℤ) then M (pix r i) (pix c j) * (w i j : EReal) else 0

/-- The same sum as the kernel forms it: the columns weighted and added up first, then the rows. -/
def nested (M : Field) (K : Fin 512 → Fin 512 → ℤ) (u v : Fin 8 → ℝ) (k : Fin 8) (r c : Fin 64) : EReal :=
  ∑ i : Fin 8, (u i : EReal) * ∑ j : Fin 8, if K (pix r i) (pix c j) = (k.val : ℤ) then M (pix r i) (pix c j) * (v j : EReal) else 0

/-- The numbers of an image, by bin, row of cells and column of cells. -/
abbrev Numbers := Fin 8 → Fin 64 → Fin 64 → EReal

/-- The sum of the squares of an image's numbers. -/
def total (C : Numbers) : EReal := ∑ k : Fin 8, ∑ r : Fin 64, ∑ c : Fin 64, C k r c * C k r c

/-- The norm, kept off zero. -/
def level (C : Numbers) : EReal := Ideal.sqrt (total C) + (tiny : EReal)

/-- The descriptor: row `r` of cells, and position `q = 8 c + k` for column `c` and bin `k`. -/
def descriptor (C : Numbers) (r : Fin 64) (q : Fin 512) : EReal :=
  C ⟨q.val % 8, by omega⟩ r ⟨q.val / 8, by omega⟩ * (level C)⁻¹

/-- The sum of the squares is not negative. -/
theorem total_nonneg (C : Numbers) : 0 ≤ total C :=
  Finset.sum_nonneg fun _ _ => Finset.sum_nonneg fun _ _ => Finset.sum_nonneg fun _ _ => square_nonneg _

/-- The number that everything is divided by is positive. -/
theorem level_pos (C : Numbers) : 0 < level C :=
  lt_of_lt_of_le (by exact_mod_cast tiny_pos) (le_add_of_nonneg_left (sqrt_nonneg (total_nonneg C)))

/-- Division by the norm is multiplication by its inverse. -/
theorem div_level (x : EReal) (C : Numbers) : Ideal.div x (level C) = x * (level C)⁻¹ := by
  unfold Ideal.div
  rw [if_neg (level_pos C).ne']

/-- An infinite number makes the norm infinite. -/
theorem level_top (C : Numbers) (k : Fin 8) (r c : Fin 64) (h : Infinite (C k r c)) : level C = ⊤ := by
  have ht : total C = ⊤ := by
    unfold total
    refine top_le_iff.mp ?_
    refine le_trans ?_ (Finset.single_le_sum (fun a _ => Finset.sum_nonneg fun b _ => Finset.sum_nonneg fun d _ => square_nonneg (C a b d)) (Finset.mem_univ k))
    refine le_trans ?_ (Finset.single_le_sum (fun b _ => Finset.sum_nonneg fun d _ => square_nonneg (C k b d)) (Finset.mem_univ r))
    refine le_trans ?_ (Finset.single_le_sum (fun d _ => square_nonneg (C k r d)) (Finset.mem_univ c))
    rw [h.square]
  unfold level
  rw [ht, Ideal.sqrt_top, EReal.top_add_coe]

/-- An infinite number makes the whole descriptor zero. -/
theorem descriptor_top (C : Numbers) (k : Fin 8) (r c : Fin 64) (h : Infinite (C k r c)) (s : Fin 64) (q : Fin 512) :
    descriptor C s q = 0 := by
  unfold descriptor
  rw [level_top C k r c h, EReal.inv_top, mul_zero]

/-- A pixel's weighted length, infinite if the length is and the weight is not zero. -/
theorem term_infinite (M : Field) (K : Fin 512 → Fin 512 → ℤ) (k : Fin 8) (x y : Fin 512) (a : ℝ) (ha : a ≠ 0) (hK : K x y = (k.val : ℤ))
    (ht : M x y = ⊤) : Infinite (if K x y = (k.val : ℤ) then M x y * (a : EReal) else 0) := by
  rw [if_pos hK, ht, mul_comm]
  exact Infinite.mul (.inl rfl) a ha

/-- One infinite length of nonzero weight makes its cell's number infinite. -/
theorem cell_infinite (M : Field) (K : Fin 512 → Fin 512 → ℤ) (w : Fin 8 → Fin 8 → ℝ) (k : Fin 8) (r c : Fin 64) (i j : Fin 8) (hw : w i j ≠ 0)
    (hK : K (pix r i) (pix c j) = (k.val : ℤ)) (ht : M (pix r i) (pix c j) = ⊤) : Infinite (cell M K w k r c) :=
  infinite_sum _ _ i (Finset.mem_univ i) (infinite_sum _ _ j (Finset.mem_univ j) (term_infinite M K k _ _ _ hw hK ht))

/-- The same of the kernel's sum. -/
theorem nested_infinite (M : Field) (K : Fin 512 → Fin 512 → ℤ) (u v : Fin 8 → ℝ) (k : Fin 8) (r c : Fin 64) (i j : Fin 8) (hu : u i ≠ 0)
    (hv : v j ≠ 0) (hK : K (pix r i) (pix c j) = (k.val : ℤ)) (ht : M (pix r i) (pix c j) = ⊤) : Infinite (nested M K u v k r c) :=
  infinite_sum _ _ i (Finset.mem_univ i)
    ((infinite_sum _ _ j (Finset.mem_univ j) (term_infinite M K k _ _ _ hv hK ht)).mul _ hu)

/-- A real factor moves into a sum of real numbers. -/
theorem mul_sum_coe {ι : Type} (s : Finset ι) (a : ℝ) (t : ι → ℝ) : (a : EReal) * ∑ i ∈ s, (t i : EReal) = ∑ i ∈ s, (a : EReal) * (t i : EReal) := by
  classical
  have hsum : ∀ f : ι → ℝ, ∑ i ∈ s, (f i : EReal) = ((∑ i ∈ s, f i : ℝ) : EReal) := fun f => by
    induction s using Finset.induction_on with
    | empty => rfl
    | insert i s hi ih => rw [Finset.sum_insert hi, Finset.sum_insert hi, ih, EReal.coe_add]
  rw [hsum, ← EReal.coe_mul, Finset.mul_sum, ← hsum]
  exact Finset.sum_congr rfl fun i _ => EReal.coe_mul _ _

/-- If no infinite length has a nonzero weight, the two programs' sums over a cell are the same. -/
theorem nested_eq (g : Field) (u v : Fin 8 → ℝ) (k : Fin 8) (r c : Fin 64)
    (h : ∀ i j : Fin 8, lengthK g (pix r i) (pix c j) = ⊤ → u i = 0 ∨ v j = 0) :
    nested (lengthK g) (binK g) u v k r c = cell (lengthR g) (binR g) (fun i j => u i * v j) k r c := by
  unfold nested cell
  refine Finset.sum_congr rfl fun i _ => ?_
  by_cases hu : u i = 0
  · rw [hu, EReal.coe_zero, zero_mul]
    refine (Finset.sum_eq_zero fun j _ => ?_).symm
    simp only [hu, zero_mul, EReal.coe_zero, mul_zero, ite_self]
  · have hterm : ∀ j : Fin 8, ∃ t : ℝ,
        (if binK g (pix r i) (pix c j) = (k.val : ℤ) then lengthK g (pix r i) (pix c j) * (v j : EReal) else 0) = (t : EReal) ∧
        (if binR g (pix r i) (pix c j) = (k.val : ℤ) then lengthR g (pix r i) (pix c j) * ((u i * v j : ℝ) : EReal) else 0) = (u i : EReal) * (t : EReal) := by
      intro j
      rcases pixel g (pix r i) (pix c j) with ⟨ht, -⟩ | ⟨m, hk, hr, hb⟩
      · have hv : v j = 0 := (h i j ht).resolve_left hu
        refine ⟨0, ?_, ?_⟩ <;> simp only [hv, mul_zero, EReal.coe_zero, ite_self]
      · rw [hk, hr, hb]
        by_cases hkb : binR g (pix r i) (pix c j) = (k.val : ℤ)
        · refine ⟨m * v j, ?_, ?_⟩
          · rw [if_pos hkb, EReal.coe_mul]
          · rw [if_pos hkb, EReal.coe_mul, EReal.coe_mul, mul_left_comm]
        · refine ⟨0, ?_, ?_⟩
          · rw [if_neg hkb, EReal.coe_zero]
          · rw [if_neg hkb, EReal.coe_zero, mul_zero]
    choose t h1 h2 using hterm
    simp only [h1, h2]
    exact mul_sum_coe _ _ _

/-- The kernel's sums and the reference's give the same descriptor. -/
theorem descriptor_eq (g : Field) (u v : Fin 8 → ℝ) (r : Fin 64) (q : Fin 512) :
    descriptor (nested (lengthK g) (binK g) u v) r q = descriptor (cell (lengthR g) (binR g) (fun i j => u i * v j)) r q := by
  by_cases h : ∃ (a b : Fin 64) (i j : Fin 8), lengthK g (pix a i) (pix b j) = ⊤ ∧ u i ≠ 0 ∧ v j ≠ 0
  · obtain ⟨a, b, i, j, ht, hu, hv⟩ := h
    rcases pixel g (pix a i) (pix b j) with ⟨hk, hr, hbk, hbr⟩ | ⟨m, hm, -⟩
    · rw [descriptor_top _ ⟨(binK g (pix a i) (pix b j)).toNat, by omega⟩ a b (nested_infinite _ _ u v _ a b i j hu hv (by simp; omega) hk),
        descriptor_top _ ⟨(binR g (pix a i) (pix b j)).toNat, by omega⟩ a b (cell_infinite _ _ _ _ a b i j (mul_ne_zero hu hv) (by simp; omega) hr)]
    · exact absurd (hm.symm.trans ht) (EReal.coe_ne_top m)
  · have e : nested (lengthK g) (binK g) u v = cell (lengthR g) (binR g) (fun i j => u i * v j) := by
      funext k a b
      refine nested_eq g u v k a b fun i j ht => ?_
      by_contra hn
      push Not at hn
      exact h ⟨a, b, i, j, ht, hn⟩
    rw [e]

/-- A sum over all rows, cell by cell. -/
theorem sum_pix {A : Type} [AddCommMonoid A] (f : Fin 512 → A) : ∑ x, f x = ∑ r : Fin 64, ∑ i : Fin 8, f (pix r i) := by
  rw [← Fintype.sum_prod_type' (f := fun r i => f (pix r i))]
  refine (Fintype.sum_equiv (finProdFinEquiv (m := 64) (n := 8)) _ _ fun p => ?_).symm
  exact congrArg f (Fin.ext (Nat.add_comm _ _))

/-- A sum over all rows that only one cell contributes to. -/
theorem sum_one_cell {A : Type} [AddCommMonoid A] (f : Fin 512 → A) (r : Fin 64) (h : ∀ x : Fin 512, x.val / 8 ≠ r.val → f x = 0) :
    ∑ x, f x = ∑ i : Fin 8, f (pix r i) := by
  rw [sum_pix]
  refine Finset.sum_eq_single r (fun s _ hs => Finset.sum_eq_zero fun i _ => h _ ?_) (fun hr => absurd (Finset.mem_univ r) hr)
  have : (pix s i).val / 8 = s.val := by
    unfold pix
    simp only
    omega
  rw [this]
  exact fun e => hs (Fin.ext e)

/-- A weight of one factor: the weight at the place within the cell, for the rows of the cell. -/
def spread (u : Fin 8 → ℝ) (r : Fin 64) (x : Fin 512) : EReal := if x.val / 8 = r.val then (u ⟨x.val % 8, by omega⟩ : EReal) else 0

/-- The spread of a cell's numbers, at a pixel of the cell, is the pixel's number. -/
theorem spread_pix (u : Fin 8 → ℝ) (r : Fin 64) (i : Fin 8) : spread u r (pix r i) = (u i : EReal) := by
  have h1 : (pix r i).val / 8 = r.val := by
    unfold pix
    simp only
    omega
  have h2 : (⟨(pix r i).val % 8, by omega⟩ : Fin 8) = i := by
    apply Fin.ext
    unfold pix
    simp only
    omega
  unfold spread
  rw [if_pos h1, h2]

/-- Weighting the columns of all pixels and then the rows gives the sum over the cell. -/
theorem nested_of_sums (M : Field) (K : Fin 512 → Fin 512 → ℤ) (u v : Fin 8 → ℝ) (k : Fin 8) (r c : Fin 64) :
    ∑ x, spread u r x * ∑ y, (if K x y = (k.val : ℤ) then M x y * spread v c y else 0) = nested M K u v k r c := by
  rw [sum_one_cell _ r (fun x hx => by unfold spread; rw [if_neg hx, zero_mul])]
  unfold nested
  refine Finset.sum_congr rfl fun i _ => ?_
  rw [spread_pix, sum_one_cell _ c (fun y hy => by unfold spread; rw [if_neg hy, mul_zero, ite_self])]
  simp only [spread_pix]

end Cert.Cells
-- ==== Proof.KernelAt.lean ====
/-
  The kernel's work on one image, read at a position of its result: the descriptor of the image's grey plane.
-/
module

public import proofs.«01_k».proof.Proof.KernelImage
public import proofs.«01_k».proof.Proof.Cells

@[expose] public section

set_option maxRecDepth 16384

noncomputable section

namespace Cert.KernelIdeal.Image

open Idealize.ShloMosaic Cert.KernelIdeal Cert.KernelIdeal.Gen Cert.Grid Cert.Constants Cert.Bins Cert.Cells

/-- A plane's numbers by row and column. -/
def field (g : Plane Ideal) : Field := fun r c => g (ix2 r c)

/-- The number above, or zero past the edge. -/
theorem above_at (g : Plane Ideal) (r c : Fin 512) : above g (ix2 r c) = padded (field g) r.val (c.val + 1) := by
  pointwise [above, zrow]
  split_ifs with h
  · rw [padded_out _ _ _ (by omega)]
  · rw [padded_eq (field g) r.val (c.val + 1) ⟨r.val - 1, by omega⟩ c (by simp; omega) rfl]
    rfl
  · rename_i hn
    exact absurd rfl hn

/-- The number below, or zero past the edge. -/
theorem below_at (g : Plane Ideal) (r c : Fin 512) : below g (ix2 r c) = padded (field g) (r.val + 2) (c.val + 1) := by
  pointwise [below, zrow]
  split_ifs with h
  · rw [padded_eq (field g) (r.val + 2) (c.val + 1) ⟨1 + r.val, by omega⟩ c (by simp; omega) rfl]
    rfl
  · rw [padded_out _ _ _ (by omega)]

/-- The right-hand neighbour's number, or zero past the edge. -/
theorem after_at (g : Plane Ideal) (f : ℕ → EReal) (r c : Fin 512) (hf : ∀ d : Fin 512, g (ix2 r d) = f (d.val + 1)) (h0 : ∀ d, 512 < d → f d = 0) :
    after g (ix2 r c) = f (c.val + 2) := by
  pointwise [after, zcol]
  split_ifs with h
  · rw [hf]
    exact congrArg f (by simp; omega)
  · rw [h0 _ (by omega)]

/-- The left-hand neighbour's number, or zero past the edge. -/
theorem before_at (g : Plane Ideal) (f : ℕ → EReal) (r c : Fin 512) (hf : ∀ d : Fin 512, g (ix2 r d) = f (d.val + 1)) (h0 : f 0 = 0) :
    before g (ix2 r c) = f c.val := by
  pointwise [before, zcol]
  split_ifs with h
  · rw [show c.val = 0 by omega, h0]
  · rw [hf]
    exact congrArg f (by simp; omega)
  · rename_i hn
    exact absurd rfl hn

/-- The column filter 1 2 1 of a plane, at a pixel. -/
theorem vsum_at (g : Plane Ideal) (r c : Fin 512) : vsum g (ix2 r c) = colSum (field g) r.val (c.val + 1) := by
  unfold colSum
  rw [← above_at, ← below_at, padded_in]
  pointwise [vsum, lit]
  rw [two]
  rfl

/-- The column filter -1 0 1 of a plane, at a pixel. -/
theorem vdiff_at (g : Plane Ideal) (r c : Fin 512) : vdiff g (ix2 r c) = colDiff (field g) r.val (c.val + 1) := by
  unfold colDiff
  rw [← above_at, ← below_at]
  rfl

/-- The kernel's horizontal gradient is the difference of column sums. -/
theorem gradX_at (g : Plane Ideal) (r c : Fin 512) : gradX g (ix2 r c) = diffX (field g) r.val c.val := by
  unfold diffX
  rw [← after_at (vsum g) (colSum (field g) r.val) r c (vsum_at g r) (fun d hd => colSum_out _ _ _ (.inr hd)),
    ← before_at (vsum g) (colSum (field g) r.val) r c (vsum_at g r) (colSum_out _ _ _ (.inl rfl))]
  rfl

/-- The kernel's vertical gradient is the weighted sum of column differences. -/
theorem gradY_at (g : Plane Ideal) (r c : Fin 512) : gradY g (ix2 r c) = diffY (field g) r.val c.val := by
  unfold diffY
  rw [← after_at (vdiff g) (colDiff (field g) r.val) r c (vdiff_at g r) (fun d hd => colDiff_out _ _ _ (.inr hd)),
    ← before_at (vdiff g) (colDiff (field g) r.val) r c (vdiff_at g r) (colDiff_out _ _ _ (.inl rfl)), ← vdiff_at]
  pointwise [gradY, lit]
  rw [two]
  rfl

/-- The gradient's length, at a pixel. -/
theorem mag_at (gx gy : Plane Ideal) (r c : Fin 512) : mag gx gy (ix2 r c) = length (gx (ix2 r c)) (gy (ix2 r c)) := by
  unfold length
  rw [← tiny_eq]
  rfl

/-- The gradient's bin by comparisons, at a pixel: the entry of the table. -/
theorem bin_at (gx gy : Plane Ideal) (r c : Fin 512) : bin gx gy (ix2 r c) = table (gx (ix2 r c)) (gy (ix2 r c)) := by
  pointwise [bin, word, lit]
  rfl

/-- Two words are the same when their numbers are. -/
theorem select_word (q : BitVec 32) (b : Fin 8) (x y : EReal) :
    Scalar.select (IntOp.cmpi .eq q (BitVec.ofNat 32 b.val)) x y = if q.toInt = (b.val : ℤ) then x else y := by
  have hb : (BitVec.ofNat 32 b.val).toInt = (b.val : ℤ) := by
    revert b
    decide +kernel
  by_cases h : q = BitVec.ofNat 32 b.val
  · rw [if_pos (by rw [h, hb]), h]
    exact if_pos (by simp [IntOp.cmpi])
  · rw [if_neg (fun e => h (BitVec.eq_of_toInt_eq (e.trans hb.symm)))]
    refine if_neg ?_
    show ¬BitVec.ofBool (q == BitVec.ofNat 32 b.val) = 1#1
    rw [beq_false_of_ne h]
    decide

/-- The two products with the row and the column matrix give each cell's weighted sum of the lengths in the bin. -/
theorem hist_at (mg : Plane Ideal) (k : IVec S512x512 32) (smat : FVec Ideal S512x64 .f32) (rmat : FVec Ideal S64x512 .f32) (b : Fin 8)
    (u v : Fin 8 → ℝ) (hs : ∀ y c, smat (ix2 y c) = spread v c y) (hr : ∀ r x, rmat (ix2 r x) = spread u r x)
    (r c : Fin 64) :
    hist mg k smat rmat (BitVec.ofNat 32 b.val) (ix2 r c) =
      nested (fun r c => mg (ix2 r c)) (fun r c => (k (ix2 r c)).toInt) u v b r c := by
  rw [← nested_of_sums (fun r c => mg (ix2 r c)) (fun r c => (k (ix2 r c)).toInt) u v b r c]
  pointwise [hist, word, lit]
  simp only [hs, hr, select_word]

/-- The sum of the squares of a table is the double sum over its rows and columns. -/
theorem squares_at (h : FVec Ideal S64x64 .f32) : squares h = ∑ r : Fin 64, ∑ c : Fin 64, h (ix2 r c) * h (ix2 r c) := by
  unfold squares extractAt
  pointwise

/-- The eight tables side by side: column `p` is column `p mod 64` of table `p / 64`. -/
theorem beside_at (h : BitVec 32 → FVec Ideal S64x64 .f32) (r : Fin 64) (p : Fin 512) :
    beside h (ix2 r p) = h (BitVec.ofNat 32 (p.val / 64)) (ix2 r ⟨p.val % 64, by omega⟩) := by
  have key : ∀ (n : ℕ) (j : Fin 64), p.val = 64 * n + j.val →
      h (BitVec.ofNat 32 n) (ix2 r j) = h (BitVec.ofNat 32 (p.val / 64)) (ix2 r ⟨p.val % 64, by omega⟩) := by
    intro n j hj
    have e1 : n = p.val / 64 := by omega
    have e2 : j = ⟨p.val % 64, by omega⟩ := Fin.ext (by simp only; omega)
    rw [← e1, ← e2]
  pointwise [beside]
  split_ifs <;> first
    | exact key 0 _ (by first | omega | (simp; done) | (simp; omega))
    | exact key 1 _ (by first | omega | (simp; done) | (simp; omega))
    | exact key 2 _ (by first | omega | (simp; done) | (simp; omega))
    | exact key 3 _ (by first | omega | (simp; done) | (simp; omega))
    | exact key 4 _ (by first | omega | (simp; done) | (simp; omega))
    | exact key 5 _ (by first | omega | (simp; done) | (simp; omega))
    | exact key 6 _ (by first | omega | (simp; done) | (simp; omega))
    | exact key 7 _ (by first | omega | (simp; done) | (simp; omega))

/-- The last step: the tables' columns in the result's order, over the norm. -/
theorem finish_at (h : BitVec 32 → FVec Ideal S64x64 .f32) (pmat : FVec Ideal S512x512 .f32) (C : Numbers)
    (hh : ∀ (b : Fin 8) (r c : Fin 64), h (BitVec.ofNat 32 b.val) (ix2 r c) = C b r c)
    (hp : ∀ p q : Fin 512, pmat (ix2 p q) = if p.val % 64 * 8 + p.val / 64 = q.val then (1 : EReal) else 0) (r : Fin 64) (q : Fin 512) :
    finish h pmat (ix3 0 r q) = descriptor C r q := by
  have hsum : ∑ p : Fin 512, beside h (ix2 r p) * pmat (ix2 p q) = C ⟨q.val % 8, by omega⟩ r ⟨q.val / 8, by omega⟩ := by
    rw [Finset.sum_eq_single (⟨q.val % 8 * 64 + q.val / 8, by omega⟩ : Fin 512)]
    · rw [hp, if_pos (by simp only; omega), beside_at]
      have e1 : (q.val % 8 * 64 + q.val / 8) / 64 = q.val % 8 := by omega
      have e2 : (⟨(q.val % 8 * 64 + q.val / 8) % 64, by omega⟩ : Fin 64) = ⟨q.val / 8, by omega⟩ := Fin.ext (by simp only; omega)
      rw [e2, mul_one, ← hh]
      simp only [e1]
    · intro p _ hne
      rw [hp, if_neg (fun e => hne (Fin.ext (by simp only; omega)))]
      exact mul_zero _
    · exact fun hn => absurd (Finset.mem_univ _) hn
  have hnorm : scale h = Ideal.div (Ideal.ofBits .f32 0x3F800000#32) (level C) := by
    unfold level total scale
    rw [Fin.sum_univ_eight]
    simp only [← hh]
    rw [← tiny_eq]
    simp only [squares_at]
    have z : (Scalar.ofBits .f32 0x00000000#32 : Ideal .f32) = 0 := Ideal.ofBits_zero_f32
    rw [z]
    show Ideal.div _ (Ideal.sqrt (0 + _ + _ + _ + _ + _ + _ + _ + _) + _) = _
    rw [zero_add]
    rfl
  have hf : finish h pmat (ix3 0 r q) = (∑ p : Fin 512, beside h (ix2 r p) * pmat (ix2 p q)) * scale h := by
    pointwise [finish]
  rw [hf, hsum, hnorm, one, div_level, EReal.coe_one, one_mul]
  rfl

/-- The grey plane at a pixel; the rounding and the cast back are the identity. -/
theorem gray_at (c0 c1 c2 : Vec Ideal S1x1x512x512 .f32) (r c : Fin 512) : gray c0 c1 c2 (ix2 r c) =
    grey (fun r c => c0 (ix4 0 0 r c)) (fun r c => c1 (ix4 0 0 r c)) (fun r c => c2 (ix4 0 0 r c)) r c := by
  unfold grey
  rw [← red_eq, ← green_eq, ← blue_eq]
  pointwise [gray, lit]

/-- The kernel's work on one image is the descriptor of the image's lengths and bins. -/
theorem image_at (c0 c1 c2 : Vec Ideal S1x1x512x512 .f32) (rmat : FVec Ideal S64x512 .f32) (smat : FVec Ideal S512x64 .f32)
    (pmat : FVec Ideal S512x512 .f32) (u v : Fin 8 → ℝ) (hs : ∀ y c, smat (ix2 y c) = spread v c y)
    (hr : ∀ r x, rmat (ix2 r x) = spread u r x)
    (hp : ∀ p q : Fin 512, pmat (ix2 p q) = if p.val % 64 * 8 + p.val / 64 = q.val then (1 : EReal) else 0) (r : Fin 64) (q : Fin 512) :
    image c0 c1 c2 rmat smat pmat (ix3 0 r q) =
      descriptor (nested (lengthK (grey (fun r c => c0 (ix4 0 0 r c)) (fun r c => c1 (ix4 0 0 r c)) (fun r c => c2 (ix4 0 0 r c))))
        (binK (grey (fun r c => c0 (ix4 0 0 r c)) (fun r c => c1 (ix4 0 0 r c)) (fun r c => c2 (ix4 0 0 r c)))) u v) r q := by
  have hg : field (gray c0 c1 c2) = grey (fun r c => c0 (ix4 0 0 r c)) (fun r c => c1 (ix4 0 0 r c)) (fun r c => c2 (ix4 0 0 r c)) :=
    funext fun r => funext fun c => gray_at c0 c1 c2 r c
  rw [← hg]
  have hM : ∀ r c : Fin 512, mag (gradX (gray c0 c1 c2)) (gradY (gray c0 c1 c2)) (ix2 r c) = lengthK (field (gray c0 c1 c2)) r c := by
    intro r c
    rw [mag_at, gradX_at, gradY_at]
    rfl
  have hK : ∀ r c : Fin 512, (bin (gradX (gray c0 c1 c2)) (gradY (gray c0 c1 c2)) (ix2 r c)).toInt = binK (field (gray c0 c1 c2)) r c := by
    intro r c
    rw [bin_at, gradX_at, gradY_at]
    rfl
  refine finish_at _ pmat _ (fun b r c => ?_) hp r q
  rw [hist_at _ _ smat rmat b u v hs hr]
  simp only [hM, hK]

end Cert.KernelIdeal.Image
-- ==== Proof.HostAt.lean ====
/-
  The three matrices the kernel is handed, read at a position: two that weight and gather rows and columns of
  pixels into cells, and one that puts the result's columns in order.
-/
module

public import proofs.«01_k».proof.Proof.Gen.KernelIdeal.Frame
public import proofs.«01_k».proof.Proof.Cells
public import Idealize.ShloMosaic.Lib.StableHlo.ReadAt

@[expose] public section

set_option maxRecDepth 16384

noncomputable section

namespace Cert.KernelIdeal.HostAt

open Idealize.ShloMosaic Idealize.ShloMosaic.TcCoe Idealize.SL.Sem Cert.KernelIdeal Cert.KernelIdeal.Gen Cert.Cells

/-- The quotient of words rounded down, as the host forms it from the truncated one. -/
def floorDiv (q d : BitVec 32) : BitVec 32 :=
  Scalar.select
    (IntOp.andi
      (IntOp.cmpi .ne (if q = 0 then (0 : BitVec 32) else if q.msb = true then -1 else 1) (if d = 0 then (0 : BitVec 32) else if d.msb = true then -1 else 1))
      (IntOp.cmpi .ne (IntOp.remsi .host q d) 0#32))
    (IntOp.subi (IntOp.divsi .host q d) 1#32) (IntOp.divsi .host q d)

/-- A divisor guarded against zero. -/
def guarded (d : BitVec 32) : BitVec 32 := Scalar.select (IntOp.cmpi .eq d 0#32) 1#32 d

/-- The remainder of words with the divisor's sign, as the host forms it from the truncated one. -/
def floorMod (q d : BitVec 32) : BitVec 32 :=
  Scalar.select
    (IntOp.andi (IntOp.cmpi .ne (IntOp.cmpi .slt (IntOp.remsi .host q (guarded d)) 0#32) (IntOp.cmpi .slt (guarded d) 0#32))
      (IntOp.cmpi .ne (IntOp.remsi .host q (guarded d)) 0#32))
    (IntOp.addi (IntOp.remsi .host q (guarded d)) (guarded d)) (IntOp.remsi .host q (guarded d))

/-- The word of a position divided by eight is the word of the quotient. -/
theorem floorDiv_eight (w : Fin 512) : floorDiv (BitVec.ofNat 32 w.val) 8#32 = BitVec.ofNat 32 (w.val / 8) := by
  revert w
  decide +kernel

/-- The position of a column of the tables in the result. -/
theorem place_word (p : Fin 512) : IntOp.addi (IntOp.muli (floorMod (BitVec.ofNat 32 p.val) 64#32) 8#32) (floorDiv (BitVec.ofNat 32 p.val) 64#32)
    = BitVec.ofNat 32 (p.val % 64 * 8 + p.val / 64) := by
  revert p
  decide +kernel

/-- The truth of an equality of small words, as a number. -/
theorem truth (a b : ℕ) (ha : a < 2 ^ 32) (hb : b < 2 ^ 32) :
    (FloatOps.uitofp .f32 (IntOp.cmpi .eq (BitVec.ofNat 32 a) (BitVec.ofNat 32 b)) : Ideal .f32) = if a = b then (1 : EReal) else 0 := by
  show (((BitVec.ofBool (BitVec.ofNat 32 a == BitVec.ofNat 32 b)).toNat : ℝ) : EReal) = _
  by_cases h : a = b
  · subst h
    simp
  · have hn : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, beq_false_of_ne hn]
    simp

/-- The quotient of a weight by the root of the first one. -/
theorem quotient (a b : ℝ) (hb : 0 < b) : Ideal.div (a : EReal) (Ideal.sqrt (b : EReal)) = ((a / Real.sqrt b : ℝ) : EReal) := by
  rw [Ideal.sqrt_coe, if_neg hb.le.not_gt, Ideal.div_coe (Real.sqrt_pos.mpr hb).ne', ← EReal.coe_mul, mul_one_div]

variable (m : (ℓ : Loc nD τ sig) → Buf (Elt Ideal) ℓ) (c : Dev nD)

/-- The matrix that gathers columns. -/
def smat (w : Fin 512) (k : Fin 64) : EReal := (V m c main_v26 : FVec Ideal S512x64 .f32) (ix2 w k)

/-- The matrix that gathers rows. -/
def rmat (k : Fin 64) (w : Fin 512) : EReal := (V m c main_v40 : FVec Ideal S64x512 .f32) (ix2 k w)

/-- The matrix that orders the result's columns. -/
def pmat (p q : Fin 512) : EReal := (V m c main_v52 : FVec Ideal S512x512 .f32) (ix2 p q)

/-- The weights of a cell, as the kernel is given them. -/
def weight (i : Fin 64) : EReal := m (c, Proc.tc.devRef main_arg1) (ix1 i)

/-- The weight of a place in a column or a row, from the first row or column of the cell. -/
def share (G : Fin 64 → ℝ) (p : Fin 8 → Fin 64) (i : Fin 8) : ℝ := G (p i) / Real.sqrt (G 0)

/-- The first row of a cell. -/
def firstRow (j : Fin 8) : Fin 64 := ⟨j.val, by omega⟩

/-- The first column of a cell. -/
def firstColumn (i : Fin 8) : Fin 64 := ⟨i.val * 8, by omega⟩

variable (G : Fin 64 → ℝ) (hG : ∀ i, weight m c i = (G i : EReal)) (h0 : 0 < G 0)

include hG h0

/-- The column matrix spreads the shares of the first row over the columns of pixels. -/
theorem smat_at (w : Fin 512) (k : Fin 64) : smat m c w k = spread (share G firstRow) k w := by
  have h : smat m c w k = (FloatOps.uitofp .f32 (IntOp.cmpi .eq (floorDiv (BitVec.ofNat 32 w.val) 8#32) (BitVec.ofNat 32 k.val)) : Ideal .f32) *
      Ideal.div (weight m c ⟨w.val % 8, by omega⟩) (Ideal.sqrt (weight m c 0)) := by
    unfold smat V
    simp only [List.flatten, List.append_nil, hostOps0, hostOps0_1, hostOps0_2, hostOps0_3, hostOps0_4, hostOps0_5, hostOps0_6, hostOps0_7,
      hostOps0_8, List.cons_append, List.nil_append]
    after_reads_at
    rfl
  rw [h, floorDiv_eight, truth _ _ (by omega) (by omega), hG, hG, quotient _ _ h0]
  unfold spread share firstRow
  split_ifs
  · exact one_mul _
  · exact zero_mul _

/-- The row matrix spreads the shares of the first column over the rows of pixels. -/
theorem rmat_at (k : Fin 64) (w : Fin 512) : rmat m c k w = spread (share G firstColumn) k w := by
  have h : rmat m c k w = (FloatOps.uitofp .f32 (IntOp.cmpi .eq (BitVec.ofNat 32 k.val) (floorDiv (BitVec.ofNat 32 w.val) 8#32)) : Ideal .f32) *
      Ideal.div (weight m c ⟨w.val % 8 * 8, by omega⟩) (Ideal.sqrt (weight m c 0)) := by
    unfold rmat V
    simp only [List.flatten, List.append_nil, hostOps0, hostOps0_1, hostOps0_2, hostOps0_3, hostOps0_4, hostOps0_5, hostOps0_6, hostOps0_7,
      hostOps0_8, List.cons_append, List.nil_append]
    after_reads_at
    rfl
  rw [h, floorDiv_eight, truth _ _ (by omega) (by omega), hG, hG, quotient _ _ h0]
  unfold spread share firstColumn
  by_cases hk : w.val / 8 = k.val
  · rw [if_pos hk, if_pos hk.symm]
    exact one_mul _
  · rw [if_neg hk, if_neg (Ne.symm hk)]
    exact zero_mul _

omit hG h0

/-- The ordering matrix has a one where column p, bin p / 64 of cell p % 64, has its place in the result, and zeros elsewhere. -/
theorem pmat_at (p q : Fin 512) : pmat m c p q = if p.val % 64 * 8 + p.val / 64 = q.val then (1 : EReal) else 0 := by
  have h : pmat m c p q = (FloatOps.uitofp .f32 (IntOp.cmpi .eq (IntOp.addi (IntOp.muli (floorMod (BitVec.ofNat 32 p.val) 64#32) 8#32)
      (floorDiv (BitVec.ofNat 32 p.val) 64#32)) (BitVec.ofNat 32 q.val)) : Ideal .f32) := by
    unfold pmat V
    simp only [List.flatten, List.append_nil, hostOps0, hostOps0_1, hostOps0_2, hostOps0_3, hostOps0_4, hostOps0_5, hostOps0_6, hostOps0_7,
      hostOps0_8, List.cons_append, List.nil_append]
    after_reads_at
    rfl
  rw [h, place_word, truth _ _ (by omega) (by omega)]

end Cert.KernelIdeal.HostAt
-- ==== Proof.KernelOut.lean ====
/-
  The array the kernel returns: at every image, row and column it is the descriptor of the image's grey plane.
-/
module

public import proofs.«01_k».proof.Proof.Gen.KernelIdeal.Value
public import proofs.«01_k».proof.Proof.KernelAt
public import proofs.«01_k».proof.Proof.HostAt
public import Idealize.ShloMosaic.Lib.Pipeline.ValueKit

@[expose] public section

set_option maxRecDepth 16384

noncomputable section

namespace Cert.KernelIdeal.Out

open Idealize.ShloMosaic Idealize.ShloMosaic.TcCoe Idealize.SL.Sem Cert.KernelIdeal Cert.KernelIdeal.Gen Cert.KernelIdeal.Facts
open Cert.Grid Cert.Bins Cert.Cells Cert.KernelIdeal.Image Cert.KernelIdeal.HostAt

/-- The grey plane of one image of a block of four. -/
def blockPlane (x0 : Vec Ideal S4x3x512x512 .f32) (i : Fin 4) : Field :=
  grey (fun r c => x0 (ix4 i 0 r c)) (fun r c => x0 (ix4 i 1 r c)) (fun r c => x0 (ix4 i 2 r c))

/-- A channel's block, loaded from its place in a block of four images. -/
theorem load_at (x0 : Vec Ideal S4x3x512x512 .f32) (i : Fin 4) (k : Fin 3) (off : Fin 4 → ℕ) (inb) (h0 : off = ![i.val, k.val, 0, 0]) (r c : Fin 512) :
    (View.ld x0 (Rect.unit (s := S4x3x512x512) off S1x1x512x512.size inb) : Vec Ideal S1x1x512x512 .f32) (ix4 0 0 r c) = x0 (ix4 i k r c) := by
  subst h0
  refine View.ld_unit_apply_of x0 _ _ _ _ _ fun a => ?_
  fin_cases a <;> simp [ix4]

variable (x0 : Vec Ideal S4x3x512x512 .f32) (x1 : Vec Ideal S64x512 .f32) (x2 : Vec Ideal S512x64 .f32) (x3 : Vec Ideal S512x512 .f32)
  (u v : Fin 8 → ℝ) (hs : ∀ y c, x2 (ix2 y c) = spread v c y) (hr : ∀ r x, x1 (ix2 r x) = spread u r x)
  (hp : ∀ p q, x3 (ix2 p q) = if p.val % 64 * 8 + p.val / 64 = q.val then (1 : EReal) else 0)

include hs hr hp in
/-- One image's piece of a block. -/
theorem piece_at (i : Fin 4) (o0 o1 o2 : Fin 4 → ℕ) (b0 b1 b2) (h0 : o0 = ![i.val, 0, 0, 0]) (h1 : o1 = ![i.val, 1, 0, 0]) (h2 : o2 = ![i.val, 2, 0, 0])
    (r : Fin 64) (q : Fin 512) :
    image (View.ld x0 (Rect.unit (s := S4x3x512x512) o0 S1x1x512x512.size b0)) (View.ld x0 (Rect.unit (s := S4x3x512x512) o1 S1x1x512x512.size b1))
      (View.ld x0 (Rect.unit (s := S4x3x512x512) o2 S1x1x512x512.size b2))
      (shapeCast S64x512 (View.ld x1 r0_1) shapeCasts_S64x512_S64x512)
      (shapeCast S512x64 (View.ld x2 r0_0) shapeCasts_S512x64_S512x64) (shapeCast S512x512 (View.ld x3 r0_2) shapeCasts_S512x512_S512x512) (ix3 0 r q)
    = descriptor (nested (lengthK (blockPlane x0 i)) (binK (blockPlane x0 i)) u v) r q := by
  have e1 : shapeCast S64x512 (View.ld x1 r0_1) shapeCasts_S64x512_S64x512 = x1 := by
    rw [View.ld_unit_lit _ _ (by decide)]
    funext y
    pointwise []
  have e2 : shapeCast S512x64 (View.ld x2 r0_0) shapeCasts_S512x64_S512x64 = x2 := by
    rw [View.ld_unit_lit _ _ (by decide)]
    funext y
    pointwise []
  have e3 : shapeCast S512x512 (View.ld x3 r0_2) shapeCasts_S512x512_S512x512 = x3 := by
    rw [View.ld_unit_lit _ _ (by decide)]
    funext y
    pointwise []
  rw [e1, e2, e3, image_at _ _ _ x1 x2 x3 u v hs hr hp]
  have hc : grey (fun r c => (View.ld x0 (Rect.unit (s := S4x3x512x512) o0 S1x1x512x512.size b0) : Vec Ideal S1x1x512x512 .f32) (ix4 0 0 r c))
      (fun r c => (View.ld x0 (Rect.unit (s := S4x3x512x512) o1 S1x1x512x512.size b1) : Vec Ideal S1x1x512x512 .f32) (ix4 0 0 r c))
      (fun r c => (View.ld x0 (Rect.unit (s := S4x3x512x512) o2 S1x1x512x512.size b2) : Vec Ideal S1x1x512x512 .f32) (ix4 0 0 r c)) = blockPlane x0 i := by
    unfold blockPlane
    congr 1 <;> funext r c
    · exact load_at x0 i 0 o0 b0 h0 r c
    · exact load_at x0 i 1 o1 b1 h1 r c
    · exact load_at x0 i 2 o2 b2 h2 r c
  exact congrArg₂ (fun l k => descriptor (nested l k u v) r q) (congrArg lengthK hc) (congrArg binK hc)

include hs hr hp in
/-- The block a grid point leaves, at an image of the four, a row and a column. -/
theorem block_at (i : Fin 4) (r : Fin 64) (q : Fin 512) :
    out0_4 x0 x1 x2 x3 (ix3 i r q) = descriptor (nested (lengthK (blockPlane x0 i)) (binK (blockPlane x0 i)) u v) r q := by
  rw [out_eq]
  canon_tiles x h
  all_goals
    have ex : x = ix3 0 r q := by
      funext a
      refine Fin.ext ?_
      fin_cases a
      · exact Nat.lt_one_iff.1 x0_lt
      · exact h1.symm
      · exact h2.symm
    have hi : i.val = _ := h0
    rw [Nat.lt_one_iff.1 x0_lt] at hi
    rw [ex]
    exact piece_at x0 x1 x2 x3 u v hs hr hp i _ _ _ _ _ _ (by rw [hi]) (by rw [hi]) (by rw [hi]) r q

variable (m : (ℓ : Loc nD τ sig) → Buf (Elt Ideal) ℓ) (c : Dev nD)

/-- The images, the kernel's first argument. -/
abbrev images : FVec Ideal S32x3x512x512 .f32 := m ((c.tc : Thread nD τ).loc main_arg0)

/-- The grey plane of one image. -/
def plane (b : Fin 32) : Field :=
  grey (fun r k => images m c (ix4 b 0 r k)) (fun r k => images m c (ix4 b 1 r k)) (fun r k => images m c (ix4 b 2 r k))

/-- The result, index by index. -/
def result (G : Fin 64 → ℝ) : FVec Ideal S32x64x512 .f32 := fun y =>
  descriptor (nested (lengthK (plane m c (y 0))) (binK (plane m c (y 0))) (share G firstColumn) (share G firstRow)) (y 1) (y 2)

/-- The image that a block's image is, of all images. -/
def imageOf (t : Fin cfg0.N) (i : Fin 4) : Fin 32 := ⟨4 * t.val + i.val, by have : t.val < 8 := t.isLt; omega⟩

/-- Where each grid point's blocks lie: the images' and the result's move by one block a point, the matrices' stay. -/
theorem block_index : ∀ t : Fin cfg0.N,
    (win0_0.index t 0 = t.val ∧ win0_0.index t 1 = 0 ∧ win0_0.index t 2 = 0 ∧ win0_0.index t 3 = 0) ∧
    (win0_1.index t 0 = 0 ∧ win0_1.index t 1 = 0) ∧ (win0_2.index t 0 = 0 ∧ win0_2.index t 1 = 0) ∧
    (win0_3.index t 0 = 0 ∧ win0_3.index t 1 = 0) ∧
    (win0_4.index t 0 = t.val ∧ win0_4.index t 1 = 0 ∧ win0_4.index t 2 = 0) :=
  (by decide +kernel : ∀ t : Fin grid0.N,
    (win0_0.index t 0 = t.val ∧ win0_0.index t 1 = 0 ∧ win0_0.index t 2 = 0 ∧ win0_0.index t 3 = 0) ∧
    (win0_1.index t 0 = 0 ∧ win0_1.index t 1 = 0) ∧ (win0_2.index t 0 = 0 ∧ win0_2.index t 1 = 0) ∧
    (win0_3.index t 0 = 0 ∧ win0_3.index t 1 = 0) ∧
    (win0_4.index t 0 = t.val ∧ win0_4.index t 1 = 0 ∧ win0_4.index t 2 = 0))

/-- The block of images at a grid point. -/
theorem images_at (t : Fin cfg0.N) (i : Fin 4) (k : Fin 3) (r q : Fin 512) :
    (iblk m c 0 t : Vec Ideal S4x3x512x512 .f32) (ix4 i k r q) = images m c (ix4 (imageOf t i) k r q) := by
  show V m c main_arg0 (((cfg0.win 0).blk t).view.emb (ix4 i k r q)) = _
  rw [V_main_arg0]
  obtain ⟨⟨e0, e1, e2, e3⟩, -⟩ := block_index t
  refine congrArg (images m c) (funext fun a => Fin.ext ?_)
  fin_cases a <;> blk_simp
  · show win0_0.index t 0 * 4 + i.val = 4 * t.val + i.val
    omega
  · show win0_0.index t 1 * 3 + k.val = k.val
    omega
  · show win0_0.index t 2 * 512 + r.val = r.val
    omega
  · show win0_0.index t 3 * 512 + q.val = q.val
    omega

/-- The row matrix is whole at every grid point. -/
theorem rows_at (t : Fin cfg0.N) (r : Fin 64) (x : Fin 512) : (iblk m c 1 t : Vec Ideal S64x512 .f32) (ix2 r x) = rmat m c r x := by
  show V m c main_v40 (((cfg0.win 1).blk t).view.emb (ix2 r x)) = V m c main_v40 (ix2 r x)
  obtain ⟨-, ⟨e0, e1⟩, -⟩ := block_index t
  refine congrArg (V m c main_v40) (funext fun a => Fin.ext ?_)
  fin_cases a <;> blk_simp
  · show win0_1.index t 0 * 64 + r.val = r.val
    omega
  · show win0_1.index t 1 * 512 + x.val = x.val
    omega

/-- The column matrix is whole at every grid point. -/
theorem columns_at (t : Fin cfg0.N) (y : Fin 512) (k : Fin 64) : (iblk m c 2 t : Vec Ideal S512x64 .f32) (ix2 y k) = smat m c y k := by
  show V m c main_v26 (((cfg0.win 2).blk t).view.emb (ix2 y k)) = V m c main_v26 (ix2 y k)
  obtain ⟨-, -, ⟨e0, e1⟩, -⟩ := block_index t
  refine congrArg (V m c main_v26) (funext fun a => Fin.ext ?_)
  fin_cases a <;> blk_simp
  · show win0_2.index t 0 * 512 + y.val = y.val
    omega
  · show win0_2.index t 1 * 64 + k.val = k.val
    omega

/-- The matrix that orders the columns is whole at every grid point. -/
theorem order_at (t : Fin cfg0.N) (p q : Fin 512) : (iblk m c 3 t : Vec Ideal S512x512 .f32) (ix2 p q) = pmat m c p q := by
  show V m c main_v52 (((cfg0.win 3).blk t).view.emb (ix2 p q)) = V m c main_v52 (ix2 p q)
  obtain ⟨-, -, -, ⟨e0, e1⟩, -⟩ := block_index t
  refine congrArg (V m c main_v52) (funext fun a => Fin.ext ?_)
  fin_cases a <;> blk_simp
  · show win0_3.index t 0 * 512 + p.val = p.val
    omega
  · show win0_3.index t 1 * 512 + q.val = q.val
    omega

/-- Where the result's block at a grid point lies. -/
theorem result_place (t : Fin cfg0.N) (i : Fin 4) (r : Fin 64) (q : Fin 512) :
    ((cfg0.win 4).blk t).view.emb (ix3 i r q) = (ix3 (imageOf t i) r q : S32x64x512.Idx) := by
  obtain ⟨-, -, -, -, e0, e1, e2⟩ := block_index t
  refine funext fun a => Fin.ext ?_
  fin_cases a <;> blk_simp
  · show win0_4.index t 0 * 4 + i.val = 4 * t.val + i.val
    omega
  · show win0_4.index t 1 * 64 + r.val = r.val
    omega
  · show win0_4.index t 2 * 512 + q.val = q.val
    omega

/-- A block's images are images of the argument. -/
theorem blockPlane_eq (t : Fin cfg0.N) (i : Fin 4) : blockPlane (iblk m c 0 t) i = plane m c (imageOf t i) := by
  unfold blockPlane plane
  congr 1 <;> funext r q <;> exact images_at m c t i _ r q

/-- What a grid point writes is the result, at its place. -/
theorem point_at (G : Fin 64 → ℝ) (hG : ∀ i, weight m c i = (G i : EReal)) (hpos : 0 < G 0) (t : Fin cfg0.N) (i : Fin 4) (r : Fin 64)
    (q : Fin 512) : out0_4 (iblk m c 0 t) (iblk m c 1 t) (iblk m c 2 t) (iblk m c 3 t) (ix3 i r q) = result m c G (ix3 (imageOf t i) r q) := by
  have h := block_at (iblk m c 0 t) (iblk m c 1 t) (iblk m c 2 t) (iblk m c 3 t) (share G firstColumn) (share G firstRow)
    (fun w k => (columns_at m c t w k).trans (smat_at m c G hG hpos w k))
    (fun k w => (rows_at m c t k w).trans (rmat_at m c G hG hpos k w))
    (fun p q => (order_at m c t p q).trans (pmat_at m c p q)) i r q
  rw [h, blockPlane_eq]
  rfl

/-- What a grid point writes is the block of the result that the point's window names. -/
theorem written_at (G : Fin 64 → ℝ) (hG : ∀ i, weight m c i = (G i : EReal)) (hpos : 0 < G 0) (t : Fin cfg0.N) (y : S4x64x512.Idx) :
    out0_4 (iblk m c 0 t) (iblk m c 1 t) (iblk m c 2 t) (iblk m c 3 t) y = result m c G (((cfg0.win 4).blk t).view.emb y) := by
  obtain ⟨i, r, q, rfl⟩ : ∃ (i : Fin 4) (r : Fin 64) (q : Fin 512), y = ix3 i r q := ⟨y 0, y 1, y 2, by
    funext a
    fin_cases a <;> rfl⟩
  exact (point_at m c G hG hpos t i r q).trans (congrArg (result m c G) (result_place t i r q)).symm

/-- The array the kernel returns is the result. -/
theorem array_eq (G : Fin 64 → ℝ) (hG : ∀ i, weight m c i = (G i : EReal)) (hpos : 0 < G 0) :
    (dats m 0 c).arrAt 4 cfg0.N = result m c G := by
  refine (dats m 0 c).arrAt_eq_of_covers 4 _ (by decide +kernel) fun t hf y => ?_
  blk_simp
  rw [after0_4]
  exact written_at m c G hG hpos t y

end Cert.KernelIdeal.Out
-- ==== Proof.ReferenceAt.lean ====
/-
  The reference's terms read at their indices: the gradients as nine products, the bin by the angle, the histogram
  as a sum over the pixels of a cell, and the result as the descriptor of each image.
-/
module

public import proofs.«01_k».proof.Proof.Gen.ReferenceIdeal.Run
public import proofs.«01_k».proof.Proof.Cells
public import Idealize.ShloMosaic.Lib.Routing.OpsPair
public import Idealize.ShloMosaic.Lib.Tactic.CleanTypes

@[expose] public section

set_option maxRecDepth 16384

noncomputable section

namespace Cert.ReferenceIdeal.At

open Idealize.ShloMosaic Idealize.ShloMosaic.TcCoe Idealize.SL.Sem Cert.ReferenceIdeal Cert.ReferenceIdeal.Gen Cert.ReferenceIdeal.Value
open Cert.Grid Cert.Constants Cert.Bins Cert.Cells

variable (V0 : Valuation τ sig (Elt Ideal))

/-- The images. -/
def argX : FVec Ideal S32x3x512x512 .f32 := V0 (Proc.devRef .tc main_arg0)

/-- The weights of a cell. -/
def argG : FVec Ideal S64 .f32 := V0 (Proc.devRef .tc main_arg1)

/-- The horizontal filter. -/
def argKx : FVec Ideal S1x1x3x3 .f32 := V0 (Proc.devRef .tc main_arg2)

/-- The vertical filter. -/
def argKy : FVec Ideal S1x1x3x3 .f32 := V0 (Proc.devRef .tc main_arg3)

/-- The grey plane of image `b`. -/
def plane (b : Fin 32) : Field :=
  grey (fun r c => argX V0 (ix4 b 0 r c)) (fun r c => argX V0 (ix4 b 1 r c)) (fun r c => argX V0 (ix4 b 2 r c))

/-- The grey images with their borders. -/
def bordered : FVec Ideal S32x1x514x514 .f32 := res_main_v11 V0

/-- The horizontal gradients. -/
def gx : FVec Ideal S32x1x512x512 .f32 := res_main_v66 V0

/-- The vertical gradients. -/
def gy : FVec Ideal S32x1x512x512 .f32 := res_main_v121 V0

/-- The grey images with their border of zeros, at a position. -/
theorem bordered_at (b : Fin 32) (r c : ℕ) (hr : r < 514) (hc : c < 514) :
    bordered V0 (ix4 b 0 ⟨r, hr⟩ ⟨c, hc⟩) = padded (plane V0 b) r c := by
  unfold bordered res_main_v11
  clean_types
  pointwise
  unfold padded
  split_ifs with h h' h'
  · unfold plane grey
    rw [← red_eq, ← green_eq, ← blue_eq]
    rfl
  · exact absurd h' (by omega)
  · exact absurd h (by omega)
  · show (((0#32 : BitVec 32).toInt : ℝ) : EReal) = 0
    simp

/-- The horizontal gradient is the nine products of the horizontal filter. -/
theorem gx_at (b : Fin 32) (r c : Fin 512) :
    gx V0 (ix4 b 0 r c) = filter (fun i j => argKx V0 (ix4 0 0 i j)) (plane V0 b) r.val c.val := by
  have hb := bordered_at V0 b
  unfold bordered at hb
  unfold gx res_main_v66
  clean_types
  pointwise
  simp only [hb, Nat.add_comm 1, Nat.add_comm 2]
  rfl

/-- The vertical gradient is the nine products of the vertical filter. -/
theorem gy_at (b : Fin 32) (r c : Fin 512) :
    gy V0 (ix4 b 0 r c) = filter (fun i j => argKy V0 (ix4 0 0 i j)) (plane V0 b) r.val c.val := by
  have hb := bordered_at V0 b
  unfold bordered at hb
  unfold gy res_main_v121
  clean_types
  pointwise
  simp only [hb, Nat.add_comm 1, Nat.add_comm 2]
  rfl

/-- A full turn. -/
def fullTurn : FVec Ideal S_ .f32 := res_main_v129 V0

/-- The number that the angles are taken modulo is a full turn. -/
theorem fullTurn_at : fullTurn V0 ix0 = turn := by
  unfold fullTurn res_main_v129 turn
  clean_types
  pointwise

/-- The remainders of the angles. -/
def remainders : FVec Ideal S32x1x512x512 .f32 := res_main_call1_v1 V0

/-- The truncated remainders of the angles by a full turn, at a pixel. -/
theorem remainders_at (b : Fin 32) (r c : Fin 512) :
    remainders V0 (ix4 b 0 r c) = Ideal.remf (Ideal.atan2 (gy V0 (ix4 b 0 r c)) (gx V0 (ix4 b 0 r c))) turn := by
  rw [← fullTurn_at V0]
  unfold remainders res_main_call1_v1
  clean_types
  pointwise
  rfl

/-- The bins, cell by cell. -/
def bins : IVec S131072x64 32 := res_main_v145 V0

/-- The image, row and column of pixel `p` of cell `n`. -/
abbrev spot (n : Fin 131072) (p : Fin 64) : S32x1x512x512.Idx :=
  ix4 (⟨n.val / 4096, by omega⟩ : Fin 32) (0 : Fin 1) (⟨n.val / 64 % 64 * 8 + p.val / 8, by omega⟩ : Fin 512) (⟨n.val % 64 * 8 + p.val % 8, by omega⟩ : Fin 512)

/-- The bin of a cell's pixel is the one that its angle falls in. -/
theorem bins_at (n : Fin 131072) (p : Fin 64) : bins V0 (ix2 n p) = angular (gx V0 (spot n p)) (gy V0 (spot n p)) := by
  have hr := remainders_at V0 ⟨n.val / 4096, by omega⟩ ⟨n.val / 64 % 64 * 8 + p.val / 8, by omega⟩ ⟨n.val % 64 * 8 + p.val % 8, by omega⟩
  have ht := fullTurn_at V0
  unfold angular
  rw [← hr]
  unfold remainders
  unfold fullTurn at ht
  have hq : (res_main_call2_v4 V0 : IVec S131072x64 32) (ix2 n p) =
      IntOp.remsi .host (eighths (wrapped ((res_main_call1_v1 V0 : FVec Ideal S32x1x512x512 .f32) (spot n p)))) eight := by
    unfold wrapped eighths
    rw [← ht]
    unfold res_main_call2_v4 res_main_call2_v2 res_main_call2_v0
    clean_types
    pointwise
    rfl
  unfold modulo
  rw [← hq]
  unfold bins res_main_v145 res_main_call2_v2 res_main_call2_v0
  clean_types
  pointwise
  rfl

/-- The two index words of every pixel: its cell and its bin. -/
def targets : IVec S131072x64x2 32 :=
  concatenate S131072x64x2 2 [⟨S131072x64x1, (broadcastInDim S131072x64x1 ![0, 1] bcast_S131072x64_S131072x64x1_0_1 (broadcastInDim S131072x64 ![0, 1] bcast_S131072x1_S131072x64_0_1 (select (cmpi .slt (res_main_v148 V0) (broadcastInDim S131072x1 ![] bcast_S_S131072x1 (constantI S_ 32 0#32))) (addi (res_main_v148 V0) (broadcastInDim S131072x1 ![] bcast_S_S131072x1 (constantI S_ 32 131072#32))) (res_main_v148 V0))))⟩, ⟨S131072x64x1, (broadcastInDim S131072x64x1 ![0, 1] bcast_S131072x64_S131072x64x1_0_1 (select (cmpi .slt (bins V0) (broadcastInDim S131072x64 ![] bcast_S_S131072x64 (constantI S_ 32 0#32))) (addi (bins V0) (broadcastInDim S131072x64 ![] bcast_S_S131072x64 (constantI S_ 32 8#32))) (bins V0)))⟩] concatenates_S131072x64x1_S131072x64x1_S131072x64x2_d2

/-- The first coordinate of a place in the histograms is the cell. -/
theorem targets_cell (n : Fin 131072) (p : Fin 64) : (targets V0 (ix3 n p 0)).toInt = (n.val : ℤ) := by
  have h : targets V0 (ix3 n p 0) = BitVec.ofNat 32 n.val := by
    unfold targets res_main_v148
    clean_types
    pointwise
    exact Routing.wrap_of_lt _ _ (by rw [BitVec.toNat_ofNat]; omega)
  rw [h]
  exact WordCmp.toInt_ofNat_of_lt (by omega)

/-- The second coordinate of a place in the histograms is the bin. -/
theorem targets_bin (n : Fin 131072) (p : Fin 64) : targets V0 (ix3 n p 1) = indexed (bins V0 (ix2 n p)) := by
  unfold targets
  clean_types
  pointwise
  rfl

/-- The weighted lengths, cell by cell. -/
def amounts : FVec Ideal S131072x64 .f32 :=
  mulf (shapeCast S131072x64 (transpose S32x64x64x8x8 [0, 1, 3, 2, 4] (shapeCast S32x64x8x64x8 (Host.sqrt (addf (addf (mulf (gx V0) (gx V0)) (mulf (gy V0) (gy V0))) (broadcastInDim S32x1x512x512 ![] bcast_S_S32x1x512x512 (constant S_ .f32 0x358637BD#32)))) shapeCasts_S32x1x512x512_S32x64x8x64x8) transposes_S32x64x8x64x8_S32x64x64x8x8_0_1_3_2_4) shapeCasts_S32x64x64x8x8_S131072x64) (broadcastInDim S131072x64 ![0, 1] bcast_S1x64_S131072x64_0_1 (broadcastInDim S1x64 ![1] bcast_S64_S1x64_1 (argG V0)))

/-- What a pixel adds to its cell's histogram: the gradient's length, weighted. -/
theorem amounts_at (n : Fin 131072) (p : Fin 64) :
    amounts V0 (ix2 n p) = length (gx V0 (spot n p)) (gy V0 (spot n p)) * argG V0 (ix1 p) := by
  unfold length
  rw [← tiny_eq]
  unfold amounts
  clean_types
  pointwise

/-- The histogram of every cell. -/
def histogram : FVec Ideal S131072x8 .f32 :=
  Host.scatterAdd scatter_S131072x8_S131072x64x2_S131072x64_n_01_01_2 (broadcastInDim S131072x8 ![] bcast_S_S131072x8 (constant S_ .f32 0x00000000#32))
    (targets V0) (amounts V0)

/-- Pixel `p` of cell `a` is counted at cell `n` and bin `k` when it is of that cell and has that bin. -/
theorem lands (a n : Fin 131072) (p : Fin 64) (k : Fin 8) :
    scatter_S131072x8_S131072x64x2_S131072x64_n_01_01_2.resultIdx? (ix2 a p) (targets V0) = some (ix2 n k) ↔
      (a.val : ℤ) = (n.val : ℤ) ∧ (indexed (bins V0 (ix2 a p))).toInt = (k.val : ℤ) := by
  rw [← targets_cell V0 a p, ← targets_bin V0 a p]
  exact Routing.scatter_lands2 scatter_S131072x8_S131072x64x2_S131072x64_n_01_01_2 rfl rfl rfl (targets V0) a p n k

/-- A cell's number in a bin is the sum of the weighted lengths of its pixels in that bin. -/
theorem histogram_sum (n : Fin 131072) (k : Fin 8) :
    histogram V0 (ix2 n k) = ∑ p : Fin 64, if (indexed (bins V0 (ix2 n p))).toInt = (k.val : ℤ) then amounts V0 (ix2 n p) else 0 := by
  have h : histogram V0 (ix2 n k) = (broadcastInDim S131072x8 ![] bcast_S_S131072x8 (constant S_ .f32 0x00000000#32) : FVec Ideal S131072x8 .f32) (ix2 n k)
      + ∑ j ∈ Finset.univ.filter (fun j => scatter_S131072x8_S131072x64x2_S131072x64_n_01_01_2.resultIdx? j (targets V0) = some (ix2 n k)), amounts V0 j := rfl
  rw [h]
  have h0 : (broadcastInDim S131072x8 ![] bcast_S_S131072x8 (constant S_ .f32 0x00000000#32) : FVec Ideal S131072x8 .f32) (ix2 n k) = 0 := by
    pointwise
  rw [h0, zero_add, Finset.sum_filter, sum_idx2]
  rw [Finset.sum_eq_single n]
  · refine Finset.sum_congr rfl fun p _ => if_congr ?_ rfl rfl
    rw [lands]
    exact ⟨fun e => e.2, fun e => ⟨rfl, e⟩⟩
  · intro a _ ha
    refine Finset.sum_eq_zero fun p _ => if_neg ?_
    rw [lands]
    exact fun e => ha (Fin.ext (by exact_mod_cast e.1))
  · exact fun hn => absurd (Finset.mem_univ n) hn

/-- A sum over `m · n` places, as `m` sums of `n`. -/
theorem sum_split {A : Type} [AddCommMonoid A] {m n N : ℕ} (hN : m * n = N) (f : Fin N → A) :
    ∑ x, f x = ∑ i : Fin m, ∑ j : Fin n, f ⟨n * i.val + j.val, by
      rw [← hN]
      calc n * i.val + j.val < n * i.val + n := by omega
        _ = n * (i.val + 1) := by ring
        _ ≤ n * m := Nat.mul_le_mul_left n i.isLt
        _ = m * n := Nat.mul_comm n m⟩ := by
  subst hN
  rw [← Fintype.sum_equiv (finProdFinEquiv (m := m) (n := n)) (fun p => f (finProdFinEquiv p)) f (fun _ => rfl), Fintype.sum_prod_type]
  exact Finset.sum_congr rfl fun i _ => Finset.sum_congr rfl fun j _ => congrArg f (Fin.ext (Nat.add_comm _ _))

variable (G : Fin 64 → ℝ) (hG : ∀ i, argG V0 (ix1 i) = (G i : EReal)) (hx : ∀ i j, argKx V0 (ix4 0 0 i j) = sobelX i j)
  (hy : ∀ i j, argKy V0 (ix4 0 0 i j) = sobelY i j)

/-- The weights of a cell by row and column. -/
def weights (i j : Fin 8) : ℝ := G ⟨8 * i.val + j.val, by omega⟩

include hG hx hy

/-- A cell's number in a bin, as the sum over its rows and columns. -/
theorem histogram_at (b : Fin 32) (r c : Fin 64) (k : Fin 8) (n : Fin 131072) (hn : n.val = b.val * 4096 + r.val * 64 + c.val) :
    histogram V0 (ix2 n k) = cell (lengthR (plane V0 b)) (binR (plane V0 b)) (weights G) k r c := by
  rw [histogram_sum, sum_split (m := 8) (n := 8) rfl]
  unfold cell
  refine Finset.sum_congr rfl fun i _ => Finset.sum_congr rfl fun j _ => ?_
  have hs : spot n ⟨8 * i.val + j.val, by omega⟩ = ix4 b (0 : Fin 1) (pix r i) (pix c j) := by
    have e1 : (⟨n.val / 4096, by omega⟩ : Fin 32) = b := Fin.ext (by simp only; omega)
    have e2 : (⟨n.val / 64 % 64 * 8 + (8 * i.val + j.val) / 8, by omega⟩ : Fin 512) = pix r i := Fin.ext (by simp only [pix]; omega)
    have e3 : (⟨n.val % 64 * 8 + (8 * i.val + j.val) % 8, by omega⟩ : Fin 512) = pix c j := Fin.ext (by simp only [pix]; omega)
    unfold spot
    rw [← e1, ← e2, ← e3]
  rw [bins_at, amounts_at, hs, gx_at, gy_at, hG]
  simp only [hx, hy]
  rfl

/-- The histograms of an image in one row. -/
def numbers : FVec Ideal S32x32768 .f32 := res_main_v164 V0

/-- The histograms of an image in one row, at a position: the bin, the cell's row and the cell's column that the position names. -/
theorem numbers_at (b : Fin 32) (n : Fin 32768) : numbers V0 (ix2 b n) =
    cell (lengthR (plane V0 b)) (binR (plane V0 b)) (weights G) ⟨n.val % 8, by omega⟩ ⟨n.val / 512, by omega⟩ ⟨n.val / 8 % 64, by omega⟩ := by
  have h : numbers V0 = shapeCast S32x32768 (histogram V0) shapeCasts_S131072x8_S32x32768 := rfl
  rw [← histogram_at V0 G hG hx hy b ⟨n.val / 512, by omega⟩ ⟨n.val / 8 % 64, by omega⟩ ⟨n.val % 8, by omega⟩ ⟨b.val * 4096 + n.val / 8, by omega⟩
    (by simp only; omega), h]
  pointwise

/-- The sum of the squares of an image's numbers. -/
theorem squares_at (b : Fin 32) : ∑ n : Fin 32768, numbers V0 (ix2 b n) * numbers V0 (ix2 b n) =
    total (cell (lengthR (plane V0 b)) (binR (plane V0 b)) (weights G)) := by
  have hc : ∀ (r c : Fin 64) (k : Fin 8) (h : 8 * (64 * r.val + c.val) + k.val < 32768), numbers V0 (ix2 b ⟨8 * (64 * r.val + c.val) + k.val, h⟩) =
      cell (lengthR (plane V0 b)) (binR (plane V0 b)) (weights G) k r c := by
    intro r c k h
    rw [numbers_at V0 G hG hx hy]
    have e1 : (⟨(8 * (64 * r.val + c.val) + k.val) % 8, by omega⟩ : Fin 8) = k := Fin.ext (by simp only; omega)
    have e2 : (⟨(8 * (64 * r.val + c.val) + k.val) / 512, by omega⟩ : Fin 64) = r := Fin.ext (by simp only; omega)
    have e3 : (⟨(8 * (64 * r.val + c.val) + k.val) / 8 % 64, by omega⟩ : Fin 64) = c := Fin.ext (by simp only; omega)
    rw [e1, e2, e3]
  rw [sum_split (m := 4096) (n := 8) rfl, sum_split (m := 64) (n := 64) rfl]
  simp only [hc]
  unfold total
  rw [Finset.sum_congr rfl fun r _ => Finset.sum_comm, Finset.sum_comm]

/-- The result. -/
def result : FVec Ideal S32x64x512 .f32 :=
  shapeCast S32x64x512 (Host.divf (numbers V0) (broadcastInDim S32x32768 ![0, 1] bcast_S32x1_S32x32768_0_1 (addf (Host.sqrt (broadcastInDim S32x1 ![0] bcast_S32_S32x1_0 (Host.reduceAdd (mulf (numbers V0) (numbers V0)) (constant S_ .f32 0x00000000#32) reducesTo_S32x32768_S32_d1 h_S_))) (broadcastInDim S32x1 ![] bcast_S_S32x1 (constant S_ .f32 0x358637BD#32))))) shapeCasts_S32x32768_S32x64x512

/-- The reference's result is the descriptor of each image. -/
theorem result_at (b : Fin 32) (r : Fin 64) (q : Fin 512) :
    result V0 (ix3 b r q) = descriptor (cell (lengthR (plane V0 b)) (binR (plane V0 b)) (weights G)) r q := by
  have h : result V0 (ix3 b r q) = Ideal.div (numbers V0 (ix2 b ⟨r.val * 512 + q.val, by omega⟩))
      (Ideal.sqrt (∑ n : Fin 32768, numbers V0 (ix2 b n) * numbers V0 (ix2 b n)) + (tiny : EReal)) := by
    rw [← tiny_eq]
    unfold result
    clean_types
    pointwise
  rw [h, squares_at V0 G hG hx hy, numbers_at V0 G hG hx hy]
  have e1 : (⟨(r.val * 512 + q.val) % 8, by omega⟩ : Fin 8) = ⟨q.val % 8, by omega⟩ := Fin.ext (by simp only; omega)
  have e2 : (⟨(r.val * 512 + q.val) / 512, by omega⟩ : Fin 64) = r := Fin.ext (by simp only; omega)
  have e3 : (⟨(r.val * 512 + q.val) / 8 % 64, by omega⟩ : Fin 64) = ⟨q.val / 8, by omega⟩ := Fin.ext (by simp only; omega)
  rw [e1, e2, e3]
  exact div_level _ _

end Cert.ReferenceIdeal.At
-- ==== Proof.Precondition.lean ====
/-
  What the precondition says of the arguments: the cell's weights are real numbers and products of a column's and a row's,
  the first of them positive, and the two filters are Sobel's.
-/
module

public import proofs.«01_k».proof.Proof.Gen.Pre_separable_sobel
public import proofs.«01_k».proof.Proof.Gradient
public import Idealize.ShloMosaic.Lib.ReduceAll

@[expose] public section

set_option maxRecDepth 16384

noncomputable section

namespace Cert.Precondition

open Idealize.ShloMosaic Cert.Pre_separable_sobel Cert.Pre_separable_sobel.Facts Cert.Grid

/-- The precondition's meaning. -/
structure Meaning (a1 : FVec Ideal S64 .f32) (a2 a3 : FVec Ideal S1x1x3x3 .f32) (G : Fin 64 → ℝ) : Prop where
  value : ∀ i, a1 (ix1 i) = (G i : EReal)
  pos : 0 < G 0
  product : ∀ i j : Fin 8, G ⟨8 * i.val + j.val, by omega⟩ * G 0 = G ⟨i.val * 8, by omega⟩ * G ⟨j.val, by omega⟩
  horizontal : ∀ i j, a2 (ix4 0 0 i j) = sobelX i j
  vertical : ∀ i j, a3 (ix4 0 0 i j) = sobelY i j

/-- A decided proposition that came out true. -/
theorem of_one (p : Prop) [Decidable p] (h : BitVec.ofBool (decide p) = 1#1) : p := by
  by_contra hn
  rw [decide_eq_false hn] at h
  exact absurd h (by decide)

/-- The table of the horizontal filter, by row and column. -/
theorem table_x (i j : Fin 3) : lit0 (S3x3.rowMajor (ix2 i j)) =
    (![![0xBF800000#32, 0x00000000#32, 0x3F800000#32], ![0xC0000000#32, 0x00000000#32, 0x40000000#32],
      ![0xBF800000#32, 0x00000000#32, 0x3F800000#32]] : Fin 3 → Fin 3 → BitVec 32) i j := by
  revert i j
  decide +kernel

/-- The table of the vertical filter, by row and column. -/
theorem table_y (i j : Fin 3) : lit1 (S3x3.rowMajor (ix2 i j)) =
    (![![0xBF800000#32, 0xC0000000#32, 0xBF800000#32], ![0x00000000#32, 0x00000000#32, 0x00000000#32],
      ![0x3F800000#32, 0x40000000#32, 0x3F800000#32]] : Fin 3 → Fin 3 → BitVec 32) i j := by
  revert i j
  decide +kernel

/-- The words of the horizontal filter are Sobel's numbers. -/
theorem sobelX_table (i j : Fin 3) : Ideal.ofBits .f32 (lit0 (S3x3.rowMajor (ix2 i j))) = sobelX i j := by
  rw [table_x]
  unfold sobelX
  fin_cases i <;> fin_cases j <;> first
    | exact Constants.one
    | exact Constants.neg_one
    | exact Constants.two
    | exact Constants.neg_two
    | exact Ideal.ofBits_zero_f32

/-- The words of the vertical filter are Sobel's numbers. -/
theorem sobelY_table (i j : Fin 3) : Ideal.ofBits .f32 (lit1 (S3x3.rowMajor (ix2 i j))) = sobelY i j := by
  rw [table_y]
  unfold sobelY
  fin_cases i <;> fin_cases j <;> first
    | exact Constants.one
    | exact Constants.neg_one
    | exact Constants.two
    | exact Constants.neg_two
    | exact Ideal.ofBits_zero_f32

variable [Facts]

/-- Where the precondition holds, there are real weights of which its meaning is true. -/
theorem meaning (a0 : FVec Ideal S32x3x512x512 .f32) (a1 : FVec Ideal S64 .f32) (a2 a3 : FVec Ideal S1x1x3x3 .f32)
    (h : fn a0 a1 a2 a3 = fun _ => 1#1) : ∃ G, Meaning a1 a2 a3 G := by
  have h0 := congrFun h ix0
  unfold fn fn_part1 at h0
  simp only at h0
  have h1 := IntOp.andi_eq_one.1 h0
  have h2 := IntOp.andi_eq_one.1 h1.1
  have h3 := IntOp.andi_eq_one.1 h2.1
  have h4 := IntOp.andi_eq_one.1 h3.1
  have hs : Subsingleton S_.Idx := inferInstance
  have hw : ∀ i : Fin 64, (⊥ : EReal) < a1 (ix1 i) ∧ a1 (ix1 i) < (⊤ : EReal) := fun i => by
    have e := Host.reduce_andi_all _ _ _ _ _ h4.1 (ix1 i)
    pointwise at e
    have e' := IntOp.andi_eq_one.1 e
    have e1 := of_one _ e'.1
    have e2 := of_one _ e'.2
    rw [Constants.neg_infinity] at e1
    rw [Constants.infinity] at e2
    exact ⟨e1, e2⟩
  have hfirst : (0 : EReal) < a1 (ix1 0) := by
    have e := h4.2
    pointwise at e
    exact of_one _ e
  have hp : ∀ i j : Fin 8, (a1 (ix1 ⟨i.val * 8 + j.val, by omega⟩) * a1 (ix1 0) : EReal) = a1 (ix1 ⟨i.val * 8, by omega⟩) * a1 (ix1 ⟨j.val, by omega⟩) :=
    fun i j => by
      have e := Host.reduce_andi_all _ _ _ _ _ h3.2 (ix2 i j)
      pointwise at e
      exact of_one _ e
  have hx : ∀ i j : Fin 3, a2 (ix4 0 0 i j) = sobelX i j := fun i j => by
    have e := Host.reduce_andi_all _ _ _ _ _ h2.2 (ix2 i j)
    pointwise at e
    exact (of_one _ e).trans (sobelX_table i j)
  have hy : ∀ i j : Fin 3, a3 (ix4 0 0 i j) = sobelY i j := fun i j => by
    have e := Host.reduce_andi_all _ _ _ _ _ h1.2 (ix2 i j)
    pointwise at e
    exact (of_one _ e).trans (sobelY_table i j)
  have hreal : ∀ i : Fin 64, ∃ r : ℝ, (a1 (ix1 i) : EReal) = (r : EReal) := fun i => by
    rcases infinite_or (a1 (ix1 i)) with (ht | hb) | hr
    · exact absurd (hw i).2 (by rw [ht]; simp)
    · exact absurd (hw i).1 (by rw [hb]; simp)
    · exact hr
  choose G hG using hreal
  rw [hG] at hfirst
  refine ⟨G, hG, by exact_mod_cast hfirst, fun i j => ?_, hx, hy⟩
  have e := hp i j
  rw [hG, hG, hG, hG, ← EReal.coe_mul, ← EReal.coe_mul, EReal.coe_eq_coe_iff] at e
  have e8 : (⟨8 * i.val + j.val, by omega⟩ : Fin 64) = ⟨i.val * 8 + j.val, by omega⟩ := Fin.ext (by simp only; omega)
  rw [e8]
  exact e

end Cert.Precondition
-- ==== Proof.lean ====
/-
  The claims, assembled: the three programs run and leave their arguments, and the idealized kernel returns the
  reference's array. The array of the kernel is in `KernelOut`, the reference's in `ReferenceAt`, the meaning of the
  precondition in `Precondition`; that the two descriptors are equal is `Cells.descriptor_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_separable_sobel
public import proofs.«01_k».proof.Proof.KernelOut
public import proofs.«01_k».proof.Proof.ReferenceAt
public import proofs.«01_k».proof.Proof.Precondition
public import Idealize.ShloMosaic.Adequacy
public import Idealize.ShloMosaic.Init

@[expose] public section

noncomputable section

namespace Cert.Proof

open Idealize.ShloMosaic Idealize.SL.Sem Cert.Cells

/-- The weight the kernel gives a pixel of a cell, the product of its row's and its column's share, is the cell's own weight. -/
theorem weights_eq (G : Fin 64 → ℝ) (hpos : 0 < G 0)
    (hG : ∀ i j : Fin 8, G ⟨8 * i.val + j.val, by omega⟩ * G 0 = G ⟨i.val * 8, by omega⟩ * G ⟨j.val, by omega⟩) :
    (fun i j => KernelIdeal.HostAt.share G KernelIdeal.HostAt.firstColumn i * KernelIdeal.HostAt.share G KernelIdeal.HostAt.firstRow j)
      = ReferenceIdeal.At.weights G := by
  funext i j
  show G ⟨i.val * 8, by omega⟩ / Real.sqrt (G 0) * (G ⟨j.val, by omega⟩ / Real.sqrt (G 0)) = G ⟨8 * i.val + j.val, by omega⟩
  rw [div_mul_div_comm, Real.mul_self_sqrt hpos.le, ← hG i j, mul_div_assoc, div_self hpos.ne', mul_one]

/-- From memories that agree on the arguments, the array the kernel returns is the reference's. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (hpre : Pre_separable_sobel.fn (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg3)) = fun _ => 1#1) :
    (KernelIdeal.Gen.dats m 0 c).arrAt 4 KernelIdeal.cfg0.N = ReferenceIdeal.At.result (StableHlo.launchContents m' c) := by
  obtain ⟨G, hG⟩ := Precondition.meaning _ _ _ _ hpre
  rw [KernelIdeal.Out.array_eq m c G hG.value hG.pos]
  have hplane : ∀ b, ReferenceIdeal.At.plane (StableHlo.launchContents m' c) b = KernelIdeal.Out.plane m c b := fun b => by
    have e : ReferenceIdeal.At.argX (StableHlo.launchContents m' c) = KernelIdeal.Out.images m c := h0
    unfold ReferenceIdeal.At.plane KernelIdeal.Out.plane
    rw [e]
  have hall : ∀ (b : Fin 32) (r : Fin 64) (q : Fin 512), KernelIdeal.Out.result m c G (ix3 b r q) =
      ReferenceIdeal.At.result (StableHlo.launchContents m' c) (ix3 b r q) := fun b r q => by
    rw [ReferenceIdeal.At.result_at (StableHlo.launchContents m' c) G (fun i => (congrFun h1 (ix1 i)).trans (hG.value i)) (fun i j => (congrFun h2 (ix4 0 0 i j)).trans (hG.horizontal i j))
      (fun i j => (congrFun h3 (ix4 0 0 i j)).trans (hG.vertical i j)), hplane,
      ← weights_eq G hG.pos hG.product, ← descriptor_eq]
    rfl
  funext y
  obtain ⟨b, r, q, rfl⟩ : ∃ (b : Fin 32) (r : Fin 64) (q : Fin 512), y = ix3 b r q := ⟨y 0, y 1, y 2, by
    funext a
    fin_cases a <;> rfl⟩
  exact hall b r q

/-- Kernel and reference compute the same array over the extended reals. -/
theorem same_results : Cert.algebraic_KernelIdeal_ReferenceIdeal_pre_separable_sobel := by
  intro m g m' g' hpre hargs
  refine ⟨fun c => (KernelIdeal.Gen.dats m 0 c).arrAt 4 KernelIdeal.cfg0.N, KernelIdeal.Value.run_blocks m g, ?_⟩
  refine (θ_run ReferenceIdeal.defs _ _).mono (fun r h c => ⟨(h c).1.trans ?_, (h c).2⟩) (ReferenceIdeal.Value.run m' g')
  exact (results_eq m m' c (hargs c).1 (hargs c).2.1 (hargs c).2.2.1 (hargs c).2.2.2 (hpre c)).symm

/-- The reference runs, leaves its arguments unchanged, and has no counters to put back. -/
theorem reference_frame : Cert.quiescent_ReferenceIdeal := fun m ρ _ =>
  (θ_run ReferenceIdeal.defs _ _).mono (fun r h => ⟨fun c => (h c).2, sem_eq_zero_of_no_sems (by decide) r.2⟩) (ReferenceIdeal.Value.run m ρ)

/-- Everything claimed: the three programs run without fault, leave their arguments and put the counters back; the ideal
    kernel is the kernel; kernel and reference compute the same array. -/
theorem claim : Cert.Claim := ⟨Cert.Kernel.Gen.facts, Cert.KernelIdeal.Gen.facts, Cert.ReferenceIdeal.Gen.facts, Cert.Pre_separable_sobel.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  trivial,
  same_results⟩

end Cert.Proof

end
